-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 8192]⟩ ⟨2, ![8192, 8192]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![8192, 256]⟩ ⟨2, ![8192, 4096]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![8192, 256]⟩ ⟨2, ![8192, 4096]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ClippedIdeal_on_within_clip [hKernelIdeal : Cert.KernelIdeal.Facts] [hClippedIdeal : Cert.ClippedIdeal.Facts] [hOn_within_clip : Cert.On_within_clip.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 8192]⟩ ⟨2, ![8192, 8192]⟩ 0 16 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = Layout.block ⟨2, ![8192, 256]⟩ ⟨2, ![8192, 4096]⟩ 1 16 c (m' (((0 : Dev Cert.ClippedIdeal.nD).tc : Thread Cert.ClippedIdeal.nD Cert.ClippedIdeal.τ).loc Cert.ClippedIdeal.main_arg1))) →
    ∃ (v0 : Buf (Elt Ideal) (((0 : Dev Cert.ClippedIdeal.nD).tc : Thread Cert.ClippedIdeal.nD Cert.ClippedIdeal.τ).loc Cert.ClippedIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 256]⟩ : Shape).Idx, (Layout.block ⟨2, ![8192, 256]⟩ ⟨2, ![8192, 4096]⟩ 1 16 c ((Cert.On_within_clip.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1)))) : (⟨2, ![8192, 256]⟩ : Shape).Idx → _) i = 1#1 → r.2.mem ((c.tc : Thread Cert.KernelIdeal.nD Cert.KernelIdeal.τ).loc Cert.KernelIdeal.main_v1_0) i = (Layout.block ⟨2, ![8192, 256]⟩ ⟨2, ![8192, 4096]⟩ 1 16 c v0 : (⟨2, ![8192, 256]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ClippedIdeal.defs (F := Ideal)) (onTc (τ := Cert.ClippedIdeal.τ) (Cert.ClippedIdeal.main (F := Ideal))) ⟨m', fun _ => 0, g'⟩ (fun r =>
          (∀ i : (⟨2, ![8192, 4096]⟩ : Shape).Idx, (Cert.On_within_clip.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1))) i = 1#1 → r.2.mem (((0 : Dev Cert.ClippedIdeal.nD).tc : Thread Cert.ClippedIdeal.nD Cert.ClippedIdeal.τ).loc Cert.ClippedIdeal.main_v6) i = v0 i)
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1))

def Claim : Prop :=
  ∃ (hKernel : Cert.Kernel.Facts) (hKernelIdeal : Cert.KernelIdeal.Facts) (hReferenceIdeal : Cert.ReferenceIdeal.Facts) (hClippedIdeal : Cert.ClippedIdeal.Facts) (hOn_within_clip : Cert.On_within_clip.Facts),
    quiescent_Kernel (hKernel := hKernel)
    ∧ quiescent_KernelIdeal (hKernelIdeal := hKernelIdeal)
    ∧ quiescent_ReferenceIdeal (hReferenceIdeal := hReferenceIdeal)
    ∧ quiescent_ClippedIdeal (hClippedIdeal := hClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_on_within_clip (hKernelIdeal := hKernelIdeal) (hClippedIdeal := hClippedIdeal) (hOn_within_clip := hOn_within_clip)
-- ==== On_within_clip.lean ====
abbrev S8192x8192 : Shape := ⟨2, ![8192, 8192]⟩
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  dot_S8192x8192_S8192x4096_S8192x4096_1_0_0_1_n_n_wf : DotDims.WF S8192x8192 S8192x4096 S8192x4096 [1] [0] [0] [1] [] []

variable [Facts]

def dot_S8192x8192_S8192x4096_S8192x4096_1_0_0_1_n_n : DotDims S8192x8192 S8192x4096 S8192x4096 where
  lhsContracting := [1]
  rhsContracting := [0]
  lhsNonContracting := [0]
  rhsNonContracting := [1]
  lhsBatch := []
  rhsBatch := []
  wf := dot_S8192x8192_S8192x4096_S8192x4096_1_0_0_1_n_n_wf
def fn {F : FTy → Type} [FloatOps F] (main_arg0 : FVec F S8192x8192 .f32) (main_arg1 : FVec F S8192x4096 .f32) : IVec S8192x4096 1 :=
  let main_v0 : FVec F S8192x4096 .f32 := (fun l r => Host.dotGeneral dot_S8192x8192_S8192x4096_S8192x4096_1_0_0_1_n_n none l r) main_arg0 main_arg1
  let main_v1 : FVec F S8192x4096 .f32 := Host.absf main_v0
  let main_cst : FVec F S_ .f32 := constant S_ .f32 0x42700000#32
  let main_v2 : FVec F S8192x4096 .f32 := broadcastInDim S8192x4096 ![] bcast_S_S8192x4096 main_cst
  let main_v3 : IVec S8192x4096 1 := cmpf .ole main_v1 main_v2
  main_v3
-- ==== Kernel.lean ====
abbrev S512x8192 : Shape := ⟨2, ![512, 8192]⟩
abbrev S8192x256 : Shape := ⟨2, ![8192, 256]⟩
abbrev S16x512x8192 : Shape := ⟨3, ![16, 512, 8192]⟩
abbrev S_ : Shape := ⟨0, ![]⟩
abbrev S15 : Shape := ⟨1, ![15]⟩
abbrev S4x256x8192 : Shape := ⟨3, ![4, 256, 8192]⟩
abbrev S4 : Shape := ⟨1, ![4]⟩
abbrev S1x512x8192 : Shape := ⟨3, ![1, 512, 8192]⟩
abbrev S1 : Shape := ⟨1, ![1]⟩
abbrev S1x256x8192 : Shape := ⟨3, ![1, 256, 8192]⟩
abbrev S256x8192 : Shape := ⟨2, ![256, 8192]⟩
abbrev S256x256 : Shape := ⟨2, ![256, 256]⟩

abbrev nBuf : Space → Nat
  | .hbm => 4
  | .vmem => 3
  | .smem => 0
  | _ => 0

abbrev bufTy : (tb : Table) → Fin (tcTables nBuf tb) → BufTy
  | .hbm, ⟨0, _⟩ => ⟨S512x8192, .f32⟩
  | .hbm, ⟨1, _⟩ => ⟨S8192x256, .f32⟩
  | .hbm, ⟨2, _⟩ => ⟨S8192x256, .f32⟩
  | .hbm, ⟨3, _⟩ => ⟨S16x512x8192, .f32⟩
  | .local _ .vmem, ⟨0, _⟩ => ⟨S8192x256, .f32⟩
  | .local _ .vmem, ⟨1, _⟩ => ⟨S8192x256, .f32⟩
  | .local _ .vmem, ⟨2, _⟩ => ⟨S4x256x8192, .f32⟩
  | _, _ => ⟨S512x8192, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch5 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_19 : BitVec 32 := 0#32
  let c0_i32_20 : BitVec 32 := 0#32
  ![v2.toNat, 0, 0]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_27 : BitVec 32 := 0#32
  let c0_i32_28 : BitVec 32 := 0#32
  ![v2.toNat, 0, 0]
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_25 : BitVec 32 := 1#32
  let v34 : BitVec 32 := Scalar.muli v24 c1_i32_25
  let v35 : BitVec 32 := Scalar.addi c0_i32_26 v34
  v35.toNat
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let c0_i32_35 : BitVec 32 := 0#32
  ![v2.toNat, 256, 0]
def k0_dev4 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_33 : BitVec 32 := 1#32
  let v44 : BitVec 32 := Scalar.muli v13 c1_i32_33
  let v45 : BitVec 32 := Scalar.addi c0_i32_34 v44
  v45.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v54 : BitVec 32 := Scalar.muli v2 c512_i32
  let v74 : Index := Scalar.indexCast v54
  let c0_54 : Index := 0#32
  ![v74.toNat, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_55 : BitVec 32 := 512#32
  let v76 : BitVec 32 := Scalar.muli v2 c512_i32_55
  let c256_i32_56 : BitVec 32 := 256#32
  let v77 : BitVec 32 := Scalar.addi v76 c256_i32_56
  let v97 : Index := Scalar.indexCast v77
  let c0_74 : Index := 0#32
  ![v97.toNat, 0]
def k0_off6 (d0 : Dev nD) (c0_i32_76 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_75 : BitVec 32 := 1#32
  let v99 : BitVec 32 := Scalar.subi v2 c1_i32_75
  let v100 : BitVec 32 := Scalar.subi v99 c0_i32_76
  let c16_i32_77 : BitVec 32 := 16#32
  let c0_i32_78 : BitVec 32 := 0#32
  let v101 : BitVec 1 := Scalar.cmpi .eq c16_i32_77 c0_i32_78
  let c1_i32_79 : BitVec 32 := 1#32
  let v102 : BitVec 32 := Scalar.select v101 c1_i32_79 c16_i32_77
  let v103 : BitVec 32 := Scalar.remsi v100 v102
  let c0_i32_81 : BitVec 32 := 0#32
  let v105 : BitVec 1 := Scalar.cmpi .slt v103 c0_i32_81
  let c0_i32_82 : BitVec 32 := 0#32
  let v106 : BitVec 1 := Scalar.cmpi .slt v102 c0_i32_82
  let v107 : BitVec 1 := Scalar.xori v105 v106
  let c0_i32_80 : BitVec 32 := 0#32
  let v104 : BitVec 1 := Scalar.cmpi .ne v103 c0_i32_80
  let v108 : BitVec 1 := Scalar.andi v107 v104
  let v109 : BitVec 32 := Scalar.addi v103 v102
  let v110 : BitVec 32 := Scalar.select v108 v109 v103
  let c0_i32_95 : BitVec 32 := 0#32
  let c0_i32_96 : BitVec 32 := 0#32
  ![v110.toNat, 0, 0]
def k0_off7 (d0 : Dev nD) (c0_i32_84 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_83 : BitVec 32 := 1#32
  let v111 : BitVec 32 := Scalar.addi v2 c1_i32_83
  let v112 : BitVec 32 := Scalar.addi v111 c0_i32_84
  let c16_i32_85 : BitVec 32 := 16#32
  let c0_i32_86 : BitVec 32 := 0#32
  let v113 : BitVec 1 := Scalar.cmpi .eq c16_i32_85 c0_i32_86
  let c1_i32_87 : BitVec 32 := 1#32
  let v114 : BitVec 32 := Scalar.select v113 c1_i32_87 c16_i32_85
  let v115 : BitVec 32 := Scalar.remsi v112 v114
  let c0_i32_89 : BitVec 32 := 0#32
  let v117 : BitVec 1 := Scalar.cmpi .slt v115 c0_i32_89
  let c0_i32_90 : BitVec 32 := 0#32
  let v118 : BitVec 1 := Scalar.cmpi .slt v114 c0_i32_90
  let v119 : BitVec 1 := Scalar.xori v117 v118
  let c0_i32_88 : BitVec 32 := 0#32
  let v116 : BitVec 1 := Scalar.cmpi .ne v115 c0_i32_88
  let v120 : BitVec 1 := Scalar.andi v119 v116
  let v121 : BitVec 32 := Scalar.addi v115 v114
  let v122 : BitVec 32 := Scalar.select v120 v121 v115
  let c256_i32_103 : BitVec 32 := 256#32
  let c0_i32_104 : BitVec 32 := 0#32
  ![v122.toNat, 256, 0]
def k0_off8 (d0 : Dev nD) (c0_i32_107 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v139 : BitVec 32 := Scalar.subi v2 c0_i32_107
  let c16_i32_108 : BitVec 32 := 16#32
  let c0_i32_109 : BitVec 32 := 0#32
  let v140 : BitVec 1 := Scalar.cmpi .eq c16_i32_108 c0_i32_109
  let c1_i32_110 : BitVec 32 := 1#32
  let v141 : BitVec 32 := Scalar.select v140 c1_i32_110 c16_i32_108
  let v142 : BitVec 32 := Scalar.remsi v139 v141
  let c0_i32_112 : BitVec 32 := 0#32
  let v144 : BitVec 1 := Scalar.cmpi .slt v142 c0_i32_112
  let c0_i32_113 : BitVec 32 := 0#32
  let v145 : BitVec 1 := Scalar.cmpi .slt v141 c0_i32_113
  let v146 : BitVec 1 := Scalar.xori v144 v145
  let c0_i32_111 : BitVec 32 := 0#32
  let v143 : BitVec 1 := Scalar.cmpi .ne v142 c0_i32_111
  let v147 : BitVec 1 := Scalar.andi v146 v143
  let v148 : BitVec 32 := Scalar.addi v142 v141
  let v149 : BitVec 32 := Scalar.select v147 v148 v142
  let c0_i32_117 : BitVec 32 := 0#32
  let c0_i32_118 : BitVec 32 := 0#32
  ![v149.toNat, 0, 0]
def k0_off9 (d0 : Dev nD) (c0_i32_121 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v156 : BitVec 32 := Scalar.addi v2 c0_i32_121
  let c16_i32_122 : BitVec 32 := 16#32
  let c0_i32_123 : BitVec 32 := 0#32
  let v157 : BitVec 1 := Scalar.cmpi .eq c16_i32_122 c0_i32_123
  let c1_i32_124 : BitVec 32 := 1#32
  let v158 : BitVec 32 := Scalar.select v157 c1_i32_124 c16_i32_122
  let v159 : BitVec 32 := Scalar.remsi v156 v158
  let c0_i32_126 : BitVec 32 := 0#32
  let v161 : BitVec 1 := Scalar.cmpi .slt v159 c0_i32_126
  let c0_i32_127 : BitVec 32 := 0#32
  let v162 : BitVec 1 := Scalar.cmpi .slt v158 c0_i32_127
  let v163 : BitVec 1 := Scalar.xori v161 v162
  let c0_i32_125 : BitVec 32 := 0#32
  let v160 : BitVec 1 := Scalar.cmpi .ne v159 c0_i32_125
  let v164 : BitVec 1 := Scalar.andi v163 v160
  let v165 : BitVec 32 := Scalar.addi v159 v158
  let v166 : BitVec 32 := Scalar.select v164 v165 v159
  let c256_i32_131 : BitVec 32 := 256#32
  let c0_i32_132 : BitVec 32 := 0#32
  ![v166.toNat, 256, 0]
def k0_dev5 (d0 : Dev nD) : Nat :=
  let c0_i32_138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_137 : BitVec 32 := 1#32
  let v173 : BitVec 32 := Scalar.muli v24 c1_i32_137
  let v174 : BitVec 32 := Scalar.addi c0_i32_138 v173
  v174.toNat
def k0_dev6 (d0 : Dev nD) : Nat :=
  let c0_i32_146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_145 : BitVec 32 := 1#32
  let v183 : BitVec 32 := Scalar.muli v13 c1_i32_145
  let v184 : BitVec 32 := Scalar.addi c0_i32_146 v183
  v184.toNat
def k0_off10 (d0 : Dev nD) (c0_i32_76 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_75 : BitVec 32 := 1#32
  let v99 : BitVec 32 := Scalar.subi v2 c1_i32_75
  let v100 : BitVec 32 := Scalar.subi v99 c0_i32_76
  let c16_i32_77 : BitVec 32 := 16#32
  let c0_i32_78 : BitVec 32 := 0#32
  let v101 : BitVec 1 := Scalar.cmpi .eq c16_i32_77 c0_i32_78
  let c1_i32_79 : BitVec 32 := 1#32
  let v102 : BitVec 32 := Scalar.select v101 c1_i32_79 c16_i32_77
  let v103 : BitVec 32 := Scalar.remsi v100 v102
  let c0_i32_81 : BitVec 32 := 0#32
  let v105 : BitVec 1 := Scalar.cmpi .slt v103 c0_i32_81
  let c0_i32_82 : BitVec 32 := 0#32
  let v106 : BitVec 1 := Scalar.cmpi .slt v102 c0_i32_82
  let v107 : BitVec 1 := Scalar.xori v105 v106
  let c0_i32_80 : BitVec 32 := 0#32
  let v104 : BitVec 1 := Scalar.cmpi .ne v103 c0_i32_80
  let v108 : BitVec 1 := Scalar.andi v107 v104
  let v109 : BitVec 32 := Scalar.addi v103 v102
  let v110 : BitVec 32 := Scalar.select v108 v109 v103
  let c512_i32_151 : BitVec 32 := 512#32
  let v193 : BitVec 32 := Scalar.muli v110 c512_i32_151
  let v213 : Index := Scalar.indexCast v193
  let c0_170 : Index := 0#32
  ![v213.toNat, 0]
def k0_off11 (d0 : Dev nD) (c0_i32_84 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_83 : BitVec 32 := 1#32
  let v111 : BitVec 32 := Scalar.addi v2 c1_i32_83
  let v112 : BitVec 32 := Scalar.addi v111 c0_i32_84
  let c16_i32_85 : BitVec 32 := 16#32
  let c0_i32_86 : BitVec 32 := 0#32
  let v113 : BitVec 1 := Scalar.cmpi .eq c16_i32_85 c0_i32_86
  let c1_i32_87 : BitVec 32 := 1#32
  let v114 : BitVec 32 := Scalar.select v113 c1_i32_87 c16_i32_85
  let v115 : BitVec 32 := Scalar.remsi v112 v114
  let c0_i32_89 : BitVec 32 := 0#32
  let v117 : BitVec 1 := Scalar.cmpi .slt v115 c0_i32_89
  let c0_i32_90 : BitVec 32 := 0#32
  let v118 : BitVec 1 := Scalar.cmpi .slt v114 c0_i32_90
  let v119 : BitVec 1 := Scalar.xori v117 v118
  let c0_i32_88 : BitVec 32 := 0#32
  let v116 : BitVec 1 := Scalar.cmpi .ne v115 c0_i32_88
  let v120 : BitVec 1 := Scalar.andi v119 v116
  let v121 : BitVec 32 := Scalar.addi v115 v114
  let v122 : BitVec 32 := Scalar.select v120 v121 v115
  let c512_i32_171 : BitVec 32 := 512#32
  let v215 : BitVec 32 := Scalar.muli v122 c512_i32_171
  let c256_i32_172 : BitVec 32 := 256#32
  let v216 : BitVec 32 := Scalar.addi v215 c256_i32_172
  let v236 : Index := Scalar.indexCast v216
  let c0_191 : Index := 0#32
  ![v236.toNat, 0]
def k0_dev7 (d0 : Dev nD) : Nat :=
  let c0_i32_255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_254 : BitVec 32 := 1#32
  let v312 : BitVec 32 := Scalar.muli v24 c1_i32_254
  let v313 : BitVec 32 := Scalar.addi c0_i32_255 v312
  v313.toNat
def k0_dev8 (d0 : Dev nD) : Nat :=
  let c0_i32_263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_262 : BitVec 32 := 1#32
  let v322 : BitVec 32 := Scalar.muli v13 c1_i32_262
  let v323 : BitVec 32 := Scalar.addi c0_i32_263 v322
  v323.toNat
def k0_dev9 (d0 : Dev nD) : Nat :=
  let c0_i32_369 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_368 : BitVec 32 := 1#32
  let v451 : BitVec 32 := Scalar.muli v24 c1_i32_368
  let v452 : BitVec 32 := Scalar.addi c0_i32_369 v451
  v452.toNat
def k0_dev10 (d0 : Dev nD) : Nat :=
  let c0_i32_377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_376 : BitVec 32 := 1#32
  let v461 : BitVec 32 := Scalar.muli v13 c1_i32_376
  let v462 : BitVec 32 := Scalar.addi c0_i32_377 v461
  v462.toNat
def k0_dev11 (d0 : Dev nD) : Nat :=
  let c0_i32_485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_484 : BitVec 32 := 1#32
  let v590 : BitVec 32 := Scalar.muli v24 c1_i32_484
  let v591 : BitVec 32 := Scalar.addi c0_i32_485 v590
  v591.toNat
def k0_dev12 (d0 : Dev nD) : Nat :=
  let c0_i32_493 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_492 : BitVec 32 := 1#32
  let v600 : BitVec 32 := Scalar.muli v13 c1_i32_492
  let v601 : BitVec 32 := Scalar.addi c0_i32_493 v600
  v601.toNat
def k0_dev13 (d0 : Dev nD) : Nat :=
  let c0_i32_601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_600 : BitVec 32 := 1#32
  let v729 : BitVec 32 := Scalar.muli v24 c1_i32_600
  let v730 : BitVec 32 := Scalar.addi c0_i32_601 v729
  v730.toNat
def k0_dev14 (d0 : Dev nD) : Nat :=
  let c0_i32_609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_608 : BitVec 32 := 1#32
  let v739 : BitVec 32 := Scalar.muli v13 c1_i32_608
  let v740 : BitVec 32 := Scalar.addi c0_i32_609 v739
  v740.toNat
def k0_dev15 (d0 : Dev nD) : Nat :=
  let c0_i32_717 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_716 : BitVec 32 := 1#32
  let v868 : BitVec 32 := Scalar.muli v24 c1_i32_716
  let v869 : BitVec 32 := Scalar.addi c0_i32_717 v868
  v869.toNat
def k0_dev16 (d0 : Dev nD) : Nat :=
  let c0_i32_725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_724 : BitVec 32 := 1#32
  let v878 : BitVec 32 := Scalar.muli v13 c1_i32_724
  let v879 : BitVec 32 := Scalar.addi c0_i32_725 v878
  v879.toNat
def k0_dev17 (d0 : Dev nD) : Nat :=
  let c0_i32_833 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_832 : BitVec 32 := 1#32
  let v1007 : BitVec 32 := Scalar.muli v24 c1_i32_832
  let v1008 : BitVec 32 := Scalar.addi c0_i32_833 v1007
  v1008.toNat
def k0_dev18 (d0 : Dev nD) : Nat :=
  let c0_i32_841 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_840 : BitVec 32 := 1#32
  let v1017 : BitVec 32 := Scalar.muli v13 c1_i32_840
  let v1018 : BitVec 32 := Scalar.addi c0_i32_841 v1017
  v1018.toNat
def k0_dev19 (d0 : Dev nD) : Nat :=
  let c0_i32_949 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_948 : BitVec 32 := 1#32
  let v1146 : BitVec 32 := Scalar.muli v24 c1_i32_948
  let v1147 : BitVec 32 := Scalar.addi c0_i32_949 v1146
  v1147.toNat
def k0_dev20 (d0 : Dev nD) : Nat :=
  let c0_i32_957 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_956 : BitVec 32 := 1#32
  let v1156 : BitVec 32 := Scalar.muli v13 c1_i32_956
  let v1157 : BitVec 32 := Scalar.addi c0_i32_957 v1156
  v1157.toNat
def k0_dev21 (d0 : Dev nD) : Nat :=
  let c0_i32_1065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1064 : BitVec 32 := 1#32
  let v1285 : BitVec 32 := Scalar.muli v24 c1_i32_1064
  let v1286 : BitVec 32 := Scalar.addi c0_i32_1065 v1285
  v1286.toNat
def k0_dev22 (d0 : Dev nD) : Nat :=
  let c0_i32_1073 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1072 : BitVec 32 := 1#32
  let v1295 : BitVec 32 := Scalar.muli v13 c1_i32_1072
  let v1296 : BitVec 32 := Scalar.addi c0_i32_1073 v1295
  v1296.toNat
def k0_dev23 (d0 : Dev nD) : Nat :=
  let c0_i32_1181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1180 : BitVec 32 := 1#32
  let v1424 : BitVec 32 := Scalar.muli v24 c1_i32_1180
  let v1425 : BitVec 32 := Scalar.addi c0_i32_1181 v1424
  v1425.toNat
def k0_dev24 (d0 : Dev nD) : Nat :=
  let c0_i32_1189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1188 : BitVec 32 := 1#32
  let v1434 : BitVec 32 := Scalar.muli v13 c1_i32_1188
  let v1435 : BitVec 32 := Scalar.addi c0_i32_1189 v1434
  v1435.toNat
def k0_dev25 (d0 : Dev nD) : Nat :=
  let c0_i32_1297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1296 : BitVec 32 := 1#32
  let v1563 : BitVec 32 := Scalar.muli v24 c1_i32_1296
  let v1564 : BitVec 32 := Scalar.addi c0_i32_1297 v1563
  v1564.toNat
def k0_dev26 (d0 : Dev nD) : Nat :=
  let c0_i32_1305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1304 : BitVec 32 := 1#32
  let v1573 : BitVec 32 := Scalar.muli v13 c1_i32_1304
  let v1574 : BitVec 32 := Scalar.addi c0_i32_1305 v1573
  v1574.toNat
def k0_dev27 (d0 : Dev nD) : Nat :=
  let c0_i32_1413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1412 : BitVec 32 := 1#32
  let v1702 : BitVec 32 := Scalar.muli v24 c1_i32_1412
  let v1703 : BitVec 32 := Scalar.addi c0_i32_1413 v1702
  v1703.toNat
def k0_dev28 (d0 : Dev nD) : Nat :=
  let c0_i32_1421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1420 : BitVec 32 := 1#32
  let v1712 : BitVec 32 := Scalar.muli v13 c1_i32_1420
  let v1713 : BitVec 32 := Scalar.addi c0_i32_1421 v1712
  v1713.toNat
def k0_dev29 (d0 : Dev nD) : Nat :=
  let c0_i32_1529 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1528 : BitVec 32 := 1#32
  let v1841 : BitVec 32 := Scalar.muli v24 c1_i32_1528
  let v1842 : BitVec 32 := Scalar.addi c0_i32_1529 v1841
  v1842.toNat
def k0_dev30 (d0 : Dev nD) : Nat :=
  let c0_i32_1537 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1536 : BitVec 32 := 1#32
  let v1851 : BitVec 32 := Scalar.muli v13 c1_i32_1536
  let v1852 : BitVec 32 := Scalar.addi c0_i32_1537 v1851
  v1852.toNat
def k0_dev31 (d0 : Dev nD) : Nat :=
  let c0_i32_1645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1644 : BitVec 32 := 1#32
  let v1980 : BitVec 32 := Scalar.muli v24 c1_i32_1644
  let v1981 : BitVec 32 := Scalar.addi c0_i32_1645 v1980
  v1981.toNat
def k0_dev32 (d0 : Dev nD) : Nat :=
  let c0_i32_1653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1652 : BitVec 32 := 1#32
  let v1990 : BitVec 32 := Scalar.muli v13 c1_i32_1652
  let v1991 : BitVec 32 := Scalar.addi c0_i32_1653 v1990
  v1991.toNat
abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ClippedIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Ring.Program.lean ====
/-
  The kernel body as a short program: an opening (barrier, own rows copied into the gather buffer, the first two
  sends, the two products of the own rows), fourteen equal hops and a last hop. The printed body is that program at
  the printed offsets, and the printed offsets have the closed forms of the ring.
-/
module

public import proofs.«01_k».proof.Proof.Gen.KernelIdeal.Skeleton
public import proofs.«01_k».proof.Proof.Gen.KernelIdeal.Points

@[expose] public section

set_option maxRecDepth 16384

noncomputable section

namespace Cert.KernelIdeal.Ring

open Idealize.ShloMosaic Idealize.SL.Sem
open Cert.KernelIdeal Cert.KernelIdeal.Gen

variable {F : FTy → Type} [FloatOps F]

/-- A program of the TensorCore that returns nothing. -/
abbrev TcProg (F : FTy → Type) [FloatOps F] : Type 1 := Prog (TpuEff nD τ sig (Elt F) Λ₀ .tc) PUnit

/-- Where a block of `size` may start in a buffer of shape `s`. -/
abbrev Corner (s : Shape) (size : Fin s.rank → ℕ) : Type := {off : Fin s.rank → ℕ // ∀ a, off a + size a ≤ s.size a}

/-- Where half of a device's rows starts in the gather buffer. -/
abbrev HalfAt := Corner S16x512x8192 S1x256x8192.size
/-- Where a 256×256 block of the output starts. -/
abbrev OutAt := Corner S8192x256 S256x256.size

/-- The gather buffer, the staging buffer, the weights and the output, as the body names them. -/
abbrev comm : Memref sig .tc .hbm S16x512x8192 .f32 := Memref.whole main_v1_1
abbrev stag : Memref sig .tc .vmem S4x256x8192 .f32 := Memref.whole cc0_scratch5
abbrev wts : Memref sig .tc .vmem S8192x256 .f32 := Memref.whole cc0_stg0_0
abbrev outb : Memref sig .tc .vmem S8192x256 .f32 := Memref.whole cc0_stg1_0
abbrev xin : Memref sig .tc .hbm S512x8192 .f32 := Memref.whole main_arg0

/-- 256 rows of the gather buffer. -/
abbrev halfOf (p : HalfAt) : Memref sig .tc .hbm S256x8192 .f32 :=
  (comm.slice (Rect.unit (s := S16x512x8192) p.1 S1x256x8192.size p.2) (fun _ => rfl)).squeeze S256x8192 squeezes_S1x256x8192_S256x8192

/-- All 512 rows of one device in the gather buffer. -/
abbrev rowsOf (p : Corner S16x512x8192 S1x512x8192.size) : Memref sig .tc .hbm S512x8192 .f32 :=
  (comm.slice (Rect.unit (s := S16x512x8192) p.1 S1x512x8192.size p.2) (fun _ => rfl)).squeeze S512x8192 squeezes_S1x512x8192_S512x8192

theorem slot_inb (n : Fin 4) : ∀ a, (![n.val, 0, 0] : Fin 3 → ℕ) a + S1x256x8192.size a ≤ S4x256x8192.size a := by
  revert n; decide

/-- The rectangle of staging slot `n`. -/
abbrev slotRect (n : Fin 4) : Rect S4x256x8192 := Rect.unit (s := S4x256x8192) ![n.val, 0, 0] S1x256x8192.size (slot_inb n)

/-- Staging slot `n`. -/
abbrev slotOf (n : Fin 4) : Memref sig .tc .vmem S256x8192 .f32 :=
  (stag.slice (slotRect n) (fun _ => rfl)).squeeze S256x8192 squeezes_S1x256x8192_S256x8192

/-- The staging slot the product of the `j`-th half in direction `b` goes through. -/
abbrev slotNo (b : Fin 2) (j : Fin 16) : Fin 4 := ⟨2 * b.val + (j.val - 1) % 2, by have := b.isLt; omega⟩

/-- The offsets, devices and semaphores the body is written over. -/
structure Places where
  rows : Dev nD → Corner S16x512x8192 S1x512x8192.size
  half : Dev nD → Fin 2 → Fin 16 → HalfAt
  sent : Dev nD → Fin 2 → Fin 15 → HalfAt
  out : Dev nD → Fin 2 → Fin 16 → OutAt
  nbr : Dev nD → Fin 2 → Dev nD
  xS : DmaSem sig
  sendS : Fin 2 → Fin 15 → DmaSem sig
  recvS : Fin 2 → Fin 15 → DmaSem sig
  slotS : Fin 4 → DmaSem sig

namespace Places
variable (p : Places)

/-- Start the `j`-th send in direction `b`, then `k`. -/
def send (d : Dev nD) (b : Fin 2) (j : Fin 15) (k : TcProg F) : TcProg F :=
  .op (.enqueueDma (halfOf (p.half d b j.castSucc)) (.remote (Dev.tc (p.nbr d b)) (halfOf (p.half d b j.castSucc)) (.dma (p.sendS b j)))
    (.dma (p.recvS b j)) ((View.wordExact_bits rfl).reshape _ _) ((View.wordExact_bits rfl).reshape _ _) ⟨⟨rfl, Or.inl rfl⟩, trivial⟩) fun _ => k

/-- Wait for the `j`-th arrival in direction `b`, then `k`. -/
def waitRecv (d : Dev nD) (b : Fin 2) (j : Fin 15) (k : TcProg F) : TcProg F :=
  .op (.waitDma2 (p.recvS b j) (halfOf (p.half d b j.succ)) (halfOf (p.half d b j.succ))
    ((View.wordExact_bits rfl).reshape _ _) ((View.wordExact_bits rfl).reshape _ _)) fun _ => k

/-- Wait until the `j`-th send in direction `b` has left, then `k`. -/
def waitSend (d : Dev nD) (b : Fin 2) (j : Fin 15) (k : TcProg F) : TcProg F :=
  .op (.waitDma2 (p.sendS b j) (halfOf (p.sent d b j)) (halfOf (p.sent d b j))
    ((View.wordExact_bits rfl).reshape _ _) ((View.wordExact_bits rfl).reshape _ _)) fun _ => k

/-- Multiply the `j`-th half in direction `b` by the weights, activate, store at its rows of the output, then `k`. -/
def comp (d : Dev nD) (b : Fin 2) (j : Fin 16) (k : TcProg F) : TcProg F :=
  .op (.enqueueDma (halfOf (p.half d b j)) (.here (slotOf (slotNo b j))) (.dma (p.slotS (slotNo b j)))
    ((View.wordExact_bits rfl).reshape _ _) ((View.wordExact_bits rfl).reshape _ _) ⟨Or.inl rfl, trivial⟩) fun _ =>
  .op (.waitDma2 (p.slotS (slotNo b j)) (halfOf (p.half d b j)) (slotOf (slotNo b j))
    ((View.wordExact_bits rfl).reshape _ _) ((View.wordExact_bits rfl).reshape _ _)) fun _ =>
  .op (.load stag (slotRect (slotNo b j)).toLoadRect (View.loadsAt_vmem h_S1x256x8192)) fun v =>
  .op (.load wts (Rect.unit (s := S8192x256) ![0, 0] S8192x256.size inb_S8192x256_S8192x256_0_0).toLoadRect (View.loadsAt_vmem h_S8192x256)) fun w =>
  .op (.load outb (Rect.unit (s := S8192x256) (p.out d b j).1 S256x256.size (p.out d b j).2).toLoadRect (View.loadsAt_vmem h_S256x256)) fun _ =>
  .op (.store outb (Rect.unit (s := S8192x256) (p.out d b j).1 S256x256.size (p.out d b j).2) (k0_pay1 v w) Finset.univ
    (View.stores_vmem_bits_univ h_S256x256 rfl) (.inl rfl)) fun _ => k

/-- Hop `h` of the first fourteen. -/
def hop (d : Dev nD) (h : Fin 14) (k : TcProg F) : TcProg F :=
  p.waitRecv d 0 h.castSucc <| p.waitRecv d 1 h.castSucc <| p.waitSend d 0 h.castSucc <| p.waitSend d 1 h.castSucc <|
  p.send d 0 h.succ <| p.send d 1 h.succ <| p.comp d 0 h.succ.castSucc <| p.comp d 1 h.succ.castSucc k

/-- The last hop. -/
def final (d : Dev nD) : TcProg F :=
  p.waitRecv d 0 14 <| p.waitRecv d 1 14 <| p.comp d 0 15 <| p.comp d 1 15 <| p.waitSend d 0 14 <| p.waitSend d 1 14 <| .ret ⟨⟩

/-- The last `n` hops of the fourteen, then the last hop. -/
def hops (d : Dev nD) : ℕ → TcProg F
  | 0 => p.final d
  | n + 1 => p.hop d ⟨13 - n, by omega⟩ (hops d n)

/-- The body. -/
def body : TcProg F :=
  .op .deviceId fun d =>
  .op (.semSignal (Dev.tc (p.nbr d 1)) barrier0 (1#32 : BitVec 32).toInt) fun _ =>
  .op (.semSignal (Dev.tc (p.nbr d 0)) barrier0 (1#32 : BitVec 32).toInt) fun _ =>
  .op (.semWait barrier0 (2#32 : BitVec 32).toInt) fun _ =>
  .op (.enqueueDma xin (.here (rowsOf (p.rows d))) (.dma p.xS) (Memref.isWhole_whole _).wordExact
    ((View.wordExact_bits rfl).reshape _ _) ⟨Or.inl rfl, trivial⟩) fun _ =>
  .op (.waitDma2 p.xS xin (rowsOf (p.rows d)) (Memref.isWhole_whole _).wordExact ((View.wordExact_bits rfl).reshape _ _)) fun _ =>
  p.send d 0 0 <| p.send d 1 0 <| p.comp d 0 0 <| p.comp d 1 0 <| p.hops d 14

end Places

theorem sem_inb (j : Fin 15) : ∀ a, (![j.val] : Fin 1 → ℕ) a + S1.size a ≤ S15.size a := by revert j; decide
theorem slotSem_inb (n : Fin 4) : ∀ a, (![n.val] : Fin 1 → ℕ) a + S1.size a ≤ S4.size a := by revert n; decide

/-- The semaphore under index `j` of a row of fifteen. -/
abbrev semAt (a : DmaSems sig S15) (j : Fin 15) : DmaSem sig :=
  ((a.slice (Rect.unit (s := S15) ![j.val] S1.size (sem_inb j))).squeeze S_ squeezes_S1_S_).sem

/-- The offsets, devices and semaphores as they are printed. -/
def printed : Places where
  rows d := ⟨k0_off1 d, k0_off1_inb d⟩
  half d b j := match b, j with
    | 0, ⟨0, _⟩ => ⟨k0_off2 d, k0_off2_inb d⟩
    | 0, ⟨h + 1, hh⟩ => ⟨k0_off6 d (BitVec.ofNat 32 h), k0_off6_inb d ⟨h, Nat.lt_of_succ_lt_succ hh⟩⟩
    | 1, ⟨0, _⟩ => ⟨k0_off3 d, k0_off3_inb d⟩
    | 1, ⟨h + 1, hh⟩ => ⟨k0_off7 d (BitVec.ofNat 32 h), k0_off7_inb d ⟨h, Nat.lt_of_succ_lt_succ hh⟩⟩
  sent d b j := match b with
    | 0 => ⟨k0_off8 d (BitVec.ofNat 32 j.val), k0_off8_inb d j⟩
    | 1 => ⟨k0_off9 d (BitVec.ofNat 32 j.val), k0_off9_inb d j⟩
  out d b j := match b, j with
    | 0, ⟨0, _⟩ => ⟨k0_off4 d, k0_off4_inb d⟩
    | 0, ⟨h + 1, hh⟩ => ⟨k0_off10 d (BitVec.ofNat 32 h), k0_off10_inb d ⟨h, Nat.lt_of_succ_lt_succ hh⟩⟩
    | 1, ⟨0, _⟩ => ⟨k0_off5 d, k0_off5_inb d⟩
    | 1, ⟨h + 1, hh⟩ => ⟨k0_off11 d (BitVec.ofNat 32 h), k0_off11_inb d ⟨h, Nat.lt_of_succ_lt_succ hh⟩⟩
  nbr d b := match b with
    | 0 => ⟨k0_dev3 d, k0_dev3_lt d⟩
    | 1 => ⟨k0_dev4 d, k0_dev4_lt d⟩
  xS := cc0_scratch0.sem
  sendS b j := match b with | 0 => semAt cc0_scratch1 j | 1 => semAt cc0_scratch3 j
  recvS b j := match b with | 0 => semAt cc0_scratch2 j | 1 => semAt cc0_scratch4 j
  slotS n := ((cc0_scratch6.slice (Rect.unit (s := S4) ![n.val] S1.size (slotSem_inb n))).squeeze S_ squeezes_S1_S_).sem

set_option maxRecDepth 65536 in
set_option maxHeartbeats 4000000 in
/-- The printed body is the short program at the printed places. -/
theorem bodyAt_printed (t : Fin cfg0.N) : bodyAt0 (F := F) t = printed.body := by
  simp only [bodyAt0, cc0_body_eq_skeleton, cc0_body_skel, semSignalWord, semWaitWord, Prog.lift, Prog.bind_op, Prog.bind_ret, Prog.pure_eq_ret,
    k0_part1_eq_skeleton, k0_part1_skel, k0_part2_eq_skeleton, k0_part2_skel, k0_part3_eq_skeleton, k0_part3_skel,
    k0_part4_eq_skeleton, k0_part4_skel, k0_part5_eq_skeleton, k0_part5_skel, k0_part6_eq_skeleton, k0_part6_skel,
    k0_part7_eq_skeleton, k0_part7_skel, k0_part8_eq_skeleton, k0_part8_skel, k0_part9_eq_skeleton, k0_part9_skel,
    k0_part10_eq_skeleton, k0_part10_skel, k0_part11_eq_skeleton, k0_part11_skel, k0_part12_eq_skeleton, k0_part12_skel,
    k0_part13_eq_skeleton, k0_part13_skel, k0_part14_eq_skeleton, k0_part14_skel, k0_part15_eq_skeleton, k0_part15_skel,
    k0_part16_eq_skeleton, k0_part16_skel, k0_part17_eq_skeleton, k0_part17_skel, k0_part18_eq_skeleton, k0_part18_skel,
    k0_part19_eq_skeleton, k0_part19_skel, k0_part20_eq_skeleton, k0_part20_skel, k0_part21_eq_skeleton, k0_part21_skel,
    k0_part22_eq_skeleton, k0_part22_skel, k0_part23_eq_skeleton, k0_part23_skel, k0_part24_eq_skeleton, k0_part24_skel,
    k0_part25_eq_skeleton, k0_part25_skel, k0_part26_eq_skeleton, k0_part26_skel, k0_part27_eq_skeleton, k0_part27_skel,
    k0_part28_eq_skeleton, k0_part28_skel, k0_part29_eq_skeleton, k0_part29_skel, k0_part30_eq_skeleton, k0_part30_skel,
    k0_part31_eq_skeleton, k0_part31_skel, k0_part32_eq_skeleton, k0_part32_skel, k0_part33_eq_skeleton, k0_part33_skel,
    k0_part34_eq_skeleton, k0_part34_skel, k0_part35_eq_skeleton, k0_part35_skel, k0_part36_eq_skeleton, k0_part36_skel,
    k0_part37_eq_skeleton, k0_part37_skel, k0_part38_eq_skeleton, k0_part38_skel, k0_part39_eq_skeleton, k0_part39_skel,
    k0_part40_eq_skeleton, k0_part40_skel, k0_part41_eq_skeleton, k0_part41_skel, k0_part42_eq_skeleton, k0_part42_skel,
    k0_part43_eq_skeleton, k0_part43_skel, k0_part44_eq_skeleton, k0_part44_skel, k0_part45_eq_skeleton, k0_part45_skel,
    k0_part46_eq_skeleton, k0_part46_skel, k0_part47_eq_skeleton, k0_part47_skel, k0_part48_eq_skeleton, k0_part48_skel,
    k0_part49_eq_skeleton, k0_part49_skel, k0_part50_eq_skeleton, k0_part50_skel, k0_part51_eq_skeleton, k0_part51_skel,
    k0_part52_eq_skeleton, k0_part52_skel, k0_part53_eq_skeleton, k0_part53_skel, k0_part54_eq_skeleton, k0_part54_skel,
    k0_part55_eq_skeleton, k0_part55_skel, k0_part56_eq_skeleton, k0_part56_skel, k0_part57_eq_skeleton, k0_part57_skel,
    k0_part58_eq_skeleton, k0_part58_skel, k0_part59_eq_skeleton, k0_part59_skel, k0_part60_eq_skeleton, k0_part60_skel,
    k0_part61_eq_skeleton, k0_part61_skel, k0_part62_eq_skeleton, k0_part62_skel, k0_part63_eq_skeleton, k0_part63_skel,
    k0_part64_eq_skeleton, k0_part64_skel, k0_part65_eq_skeleton, k0_part65_skel, k0_part66_eq_skeleton, k0_part66_skel,
    k0_part67_eq_skeleton, k0_part67_skel, k0_part68_eq_skeleton, k0_part68_skel, k0_part69_eq_skeleton, k0_part69_skel,
    k0_part70_eq_skeleton, k0_part70_skel]
  rfl

/-! ### The closed forms -/

/-- The device whose half the `j`-th step in direction `b` handles on device `d`: `d - j` around the ring in direction 0,
    `d + j` in direction 1. -/
def src (b : Fin 2) (d : Dev nD) (j : Fin 16) : Dev nD :=
  match b with
  | 0 => ⟨(d.val + 16 - j.val) % 16, Nat.mod_lt _ (by decide)⟩
  | 1 => ⟨(d.val + j.val) % 16, Nat.mod_lt _ (by decide)⟩

/-- The neighbour that device `d` sends to in direction `b`. -/
def peer (b : Fin 2) (d : Dev nD) : Dev nD :=
  match b with
  | 0 => ⟨(d.val + 1) % 16, Nat.mod_lt _ (by decide)⟩
  | 1 => ⟨(d.val + 15) % 16, Nat.mod_lt _ (by decide)⟩

theorem rows_inb (o : Dev nD) : ∀ a, (![o.val, 0, 0] : Fin 3 → ℕ) a + S1x512x8192.size a ≤ S16x512x8192.size a := by
  revert o; decide
theorem half_inb (o : Dev nD) (b : Fin 2) : ∀ a, (![o.val, 256 * b.val, 0] : Fin 3 → ℕ) a + S1x256x8192.size a ≤ S16x512x8192.size a := by
  revert o b; decide
theorem out_inb (o : Dev nD) (b : Fin 2) : ∀ a, (![512 * o.val + 256 * b.val, 0] : Fin 2 → ℕ) a + S256x256.size a ≤ S8192x256.size a := by
  revert o b; decide

/-- Half `b` of device `o`'s rows in the gather buffer. -/
abbrev halfAt (o : Dev nD) (b : Fin 2) : HalfAt := ⟨![o.val, 256 * b.val, 0], half_inb o b⟩
/-- The rows of half `b` of device `o` in the output. -/
abbrev outAt (o : Dev nD) (b : Fin 2) : OutAt := ⟨![512 * o.val + 256 * b.val, 0], out_inb o b⟩

/-- The semaphores by number. -/
abbrev xSem : DmaSem sig := ⟨2, by decide⟩
abbrev sendSem (b : Fin 2) (j : Fin 15) : DmaSem sig := ⟨3 + 30 * b.val + j.val, by show _ < 67; omega⟩
abbrev recvSem (b : Fin 2) (j : Fin 15) : DmaSem sig := ⟨18 + 30 * b.val + j.val, by show _ < 67; omega⟩
abbrev slotSem (n : Fin 4) : DmaSem sig := ⟨63 + n.val, by show _ < 67; omega⟩

/-- The offsets, devices and semaphores of the ring. -/
def ring : Places where
  rows d := ⟨![d.val, 0, 0], rows_inb d⟩
  half d b j := halfAt (src b d j) b
  sent d b j := halfAt (src b d j.castSucc) b
  out d b j := outAt (src b d j) b
  nbr d b := peer b d
  xS := xSem
  sendS := sendSem
  recvS := recvSem
  slotS := slotSem

theorem rows_eq (d : Dev nD) : printed.rows d = ring.rows d := Subtype.ext ((by decide +kernel : ∀ d : Dev nD, k0_off1 d = ![d.val, 0, 0]) d)

theorem half_eq (d : Dev nD) (b : Fin 2) (j : Fin 16) : printed.half d b j = ring.half d b j :=
  Subtype.ext ((by decide +kernel : ∀ (b : Fin 2) (j : Fin 16) (d : Dev nD), (printed.half d b j).1 = (ring.half d b j).1) b j d)

theorem sent_eq (d : Dev nD) (b : Fin 2) (j : Fin 15) : printed.sent d b j = ring.sent d b j :=
  Subtype.ext ((by decide +kernel : ∀ (b : Fin 2) (j : Fin 15) (d : Dev nD), (printed.sent d b j).1 = (ring.sent d b j).1) b j d)

theorem out_eq (d : Dev nD) (b : Fin 2) (j : Fin 16) : printed.out d b j = ring.out d b j :=
  Subtype.ext ((by decide +kernel : ∀ (b : Fin 2) (j : Fin 16) (d : Dev nD), (printed.out d b j).1 = (ring.out d b j).1) b j d)

theorem nbr_eq (d : Dev nD) (b : Fin 2) : printed.nbr d b = ring.nbr d b :=
  (by decide +kernel : ∀ (b : Fin 2) (d : Dev nD), printed.nbr d b = ring.nbr d b) b d

theorem printed_eq : printed = ring := by
  have h1 : printed.xS = ring.xS := by decide +kernel
  have h2 : printed.sendS = ring.sendS := by decide +kernel
  have h3 : printed.recvS = ring.recvS := by decide +kernel
  have h4 : printed.slotS = ring.slotS := by decide +kernel
  have e : ∀ p q : Places, p.rows = q.rows → p.half = q.half → p.sent = q.sent → p.out = q.out → p.nbr = q.nbr → p.xS = q.xS →
      p.sendS = q.sendS → p.recvS = q.recvS → p.slotS = q.slotS → p = q := by
    rintro ⟨⟩ ⟨⟩ h1 h2 h3 h4 h5 h6 h7 h8 h9; cases h1; cases h2; cases h3; cases h4; cases h5; cases h6; cases h7; cases h8; cases h9; rfl
  exact e _ _ (funext rows_eq) (funext₃ half_eq) (funext₃ sent_eq) (funext₃ out_eq) (funext₂ nbr_eq) h1 h2 h3 h4

/-- The printed body is the short program at the places of the ring. -/
theorem bodyAt_ring (t : Fin cfg0.N) : bodyAt0 (F := F) t = ring.body := by rw [bodyAt_printed, printed_eq]

end Cert.KernelIdeal.Ring

end
-- ==== Proof.Ring.Contents.lean ====
/-
  What the buffers hold: the halves of the gather buffer as sets of elements, the contents every filled half has on
  every device, the product of one half with a device's weights, and the result a device computes.
-/
module

public import proofs.«01_k».proof.Proof.Ring.Program
public import Idealize.ShloMosaic.Lib.Pipeline.Value
public import Idealize.ShloMosaic.Lib.ValueLayout
public import Idealize.ShloMosaic.Lib.Exec

@[expose] public section

noncomputable section

namespace Cert.KernelIdeal.Ring

open Idealize.ShloMosaic Idealize.ShloMosaic.TcCoe Idealize.ShloMosaic.ValueIdx Idealize.SL.Sem
open Cert.KernelIdeal Cert.KernelIdeal.Gen

variable {F : FTy → Type} [FloatOps F]

/-! ### Steps of the ring -/

/-- What the neighbour receives at a step is what the sender sent at it. -/
theorem src_peer (b : Fin 2) (d : Dev nD) (j : Fin 15) : src b (peer b d) j.succ = src b d j.castSucc := by
  revert b d j; decide
theorem src_zero (b : Fin 2) (d : Dev nD) : src b d 0 = d := by revert b d; decide
/-- The halves a neighbour will send into a device are the device's halves after its own. -/
theorem src_opp (b : Fin 2) (d : Dev nD) (j : Fin 15) : src b (peer (1 - b) d) j.castSucc = src b d j.succ := by
  revert b d j; decide
theorem peer_opp (b : Fin 2) (d : Dev nD) : peer b (peer (1 - b) d) = d := by revert b d; decide
theorem opp_peer (b : Fin 2) (d : Dev nD) : peer (1 - b) (peer b d) = d := by revert b d; decide
theorem src_inj (b : Fin 2) (d : Dev nD) : Function.Injective (src b d) := by
  have : ∀ (b : Fin 2) (d : Dev nD) (i j : Fin 16), src b d i = src b d j → i = j := by decide +kernel
  exact fun i j => this b d i j
theorem src_surj (b : Fin 2) (d o : Dev nD) : ∃ i : Fin 16, src b d i = o := by
  have : ∀ (b : Fin 2) (d o : Dev nD), ∃ i : Fin 16, src b d i = o := by decide +kernel
  exact this b d o

/-! ### The halves as sets -/

/-- The elements of half `b` of device `o`'s rows. -/
abbrev halfSet (o : Dev nD) (b : Fin 2) : Finset (comm.view.ty.Idx) := (halfOf (halfAt o b)).view.set

/-- An element of the gather buffer by coordinates. -/
abbrev at3 (i : comm.view.ty.Idx) : S16x512x8192.Idx := i

theorem mem_half {o : Dev nD} {b : Fin 2} {i : comm.view.ty.Idx} :
    i ∈ halfSet o b ↔ (at3 i 0).val = o.val ∧ 256 * b.val ≤ (at3 i 1).val ∧ (at3 i 1).val < 256 * b.val + 256 := by
  unfold halfSet halfOf
  rw [Memref.set_view_squeeze]
  show i ∈ ((View.whole main_v1_1).slice (Rect.unit (s := S16x512x8192) ![o.val, 256 * b.val, 0] S1x256x8192.size (half_inb o b))).set ↔ _
  rw [View.set_slice_whole]
  refine (LoadRect.mem_set _).trans ?_
  constructor
  · intro h
    obtain ⟨j0, hj0, e0⟩ := h (0 : Fin 3)
    obtain ⟨j1, hj1, e1⟩ := h (1 : Fin 3)
    have hj0' : j0 < 1 := hj0
    have hj1' : j1 < 256 := hj1
    have e0' : (at3 i 0).val = o.val + 1 * j0 := e0
    have e1' : (at3 i 1).val = 256 * b.val + 1 * j1 := e1
    omega
  · rintro ⟨h0, h1, h2⟩ a
    match a with
    | ⟨0, _⟩ => exact ⟨0, Nat.one_pos, by show (at3 i 0).val = o.val + 1 * 0; omega⟩
    | ⟨1, _⟩ => exact ⟨(at3 i 1).val - 256 * b.val, by show _ < 256; omega, by show (at3 i 1).val = 256 * b.val + 1 * _; omega⟩
    | ⟨2, _⟩ => exact ⟨(at3 i 2).val, (at3 i 2).isLt, by show (at3 i 2).val = 0 + 1 * _; omega⟩

theorem mem_rows {o : Dev nD} {i : comm.view.ty.Idx} :
    i ∈ (rowsOf ⟨![o.val, 0, 0], rows_inb o⟩).view.set ↔ (at3 i 0).val = o.val := by
  unfold rowsOf
  rw [Memref.set_view_squeeze]
  show i ∈ ((View.whole main_v1_1).slice (Rect.unit (s := S16x512x8192) ![o.val, 0, 0] S1x512x8192.size (rows_inb o))).set ↔ _
  rw [View.set_slice_whole]
  refine (LoadRect.mem_set _).trans ?_
  constructor
  · intro h
    obtain ⟨j0, hj0, e0⟩ := h (0 : Fin 3)
    have hj0' : j0 < 1 := hj0
    have e0' : (at3 i 0).val = o.val + 1 * j0 := e0
    omega
  · rintro h0 a
    match a with
    | ⟨0, _⟩ => exact ⟨0, Nat.one_pos, by show (at3 i 0).val = o.val + 1 * 0; omega⟩
    | ⟨1, _⟩ => exact ⟨(at3 i 1).val, (at3 i 1).isLt, by show (at3 i 1).val = 0 + 1 * _; omega⟩
    | ⟨2, _⟩ => exact ⟨(at3 i 2).val, (at3 i 2).isLt, by show (at3 i 2).val = 0 + 1 * _; omega⟩

/-- A device's rows are its two halves. -/
theorem rows_halves (o : Dev nD) : (rowsOf ⟨![o.val, 0, 0], rows_inb o⟩).view.set = halfSet o 0 ∪ halfSet o 1 := by
  ext i
  rw [Finset.mem_union, mem_half, mem_half, mem_rows]
  have := (at3 i 1).isLt
  have h : (at3 i 1).val < 512 := this
  simp only [Fin.val_zero, Fin.val_one]
  omega

theorem half_disjoint {o o' : Dev nD} {b b' : Fin 2} (h : (o, b) ≠ (o', b')) : Disjoint (halfSet o b) (halfSet o' b') := by
  refine Finset.disjoint_left.mpr fun i h1 h2 => h ?_
  rw [mem_half] at h1 h2
  refine Prod.ext (Fin.ext ?_) (Fin.ext ?_)
  · show o.val = o'.val; omega
  · show b.val = b'.val; omega

/-- The halves of a whole lap in the two directions are all of the gather buffer. -/
theorem half_cover (d : Dev nD) :
    (Finset.univ : Finset (Fin 2 × Fin 16)).biUnion (fun x => halfSet (src x.1 d x.2) x.1) = Finset.univ := by
  refine Finset.eq_univ_iff_forall.mpr fun i => Finset.mem_biUnion.mpr ?_
  have h : (at3 i 1).val < 512 := (at3 i 1).isLt
  obtain ⟨j, hj⟩ := src_surj ⟨(at3 i 1).val / 256, by omega⟩ d ⟨(at3 i 0).val, (at3 i 0).isLt⟩
  refine ⟨(⟨(at3 i 1).val / 256, by omega⟩, j), Finset.mem_univ _, ?_⟩
  rw [mem_half]
  show (at3 i 0).val = (src ⟨(at3 i 1).val / 256, _⟩ d j).val ∧ _
  rw [hj]
  refine ⟨rfl, ?_, ?_⟩
  · show 256 * ((at3 i 1).val / 256) ≤ _; omega
  · show _ < 256 * ((at3 i 1).val / 256) + 256; omega

theorem half_pairwise (d : Dev nD) (x : Fin 2 × Fin 16) (y : Fin 2 × Fin 16) (h : x ≠ y) :
    Disjoint (halfSet (src x.1 d x.2) x.1) (halfSet (src y.1 d y.2) y.1) := by
  refine half_disjoint fun e => h ?_
  obtain ⟨b, i⟩ := x; obtain ⟨b', i'⟩ := y
  have hb : b = b' := congrArg Prod.snd e
  subst hb
  exact congrArg (Prod.mk b) (src_inj b d (congrArg Prod.fst e))

/-! ### Contents -/

variable (m : (ℓ : Loc nD τ sig) → Buf (Elt F) ℓ)

/-- Device `o`'s rows of the left operand. -/
def xOf (o : Dev nD) : Vec F S512x8192 .f32 := m ((o : Thread nD τ).loc main_arg0)
/-- Device `c`'s columns of the right operand. -/
def wOf (c : Dev nD) : Vec F S8192x256 .f32 := m ((c : Thread nD τ).loc main_arg1)

/-- What every filled part of every gather buffer holds: at `(o, r, k)`, element `(r, k)` of device `o`'s rows. -/
def gathered : (main_v1_1 : Ref sig .tc).ty.Contents (Elt F) := fun i => xOf m ⟨(at3 i 0).val, (at3 i 0).isLt⟩ (ix2 (at3 i 1) (at3 i 2))

/-- Contents written through a view from what it reads of `X` are `X` on the view. -/
theorem write_read_of {s : Shape} {e : EltTy} {κ : Kind} {sp : Space} (v : View sig κ sp s e) (fd X : v.ty.Contents (Elt F)) (i : v.ty.Idx) (hi : i ∈ v.set) :
    v.write (Elt F) fd (v.read (Elt F) X) Finset.univ i = X i := by
  rw [View.write_read_eq_piecewise]
  exact Finset.piecewise_eq_of_mem _ _ _ hi

omit [FloatOps F] in
/-- The rows of device `o` in the gathered contents are device `o`'s rows. -/
theorem rows_read (o : Dev nD) : (rowsOf ⟨![o.val, 0, 0], rows_inb o⟩).view.read (Elt F) (gathered m) = xOf m o := by
  funext x
  obtain ⟨r, k, rfl⟩ : ∃ (r : Fin 512) (k : Fin 8192), x = ix2 r k := ⟨x 0, x 1, by funext a; fin_cases a <;> rfl⟩
  show gathered m ((Rect.unit (s := S16x512x8192) ![o.val, 0, 0] S1x512x8192.size (rows_inb o)).emb
    (Shape.reshapeEquiv squeezes_S1x512x8192_S512x8192.numel_eq (ix2 r k))) = _
  rw [reshapeEquiv_ix2_1ab]
  unfold gathered
  refine congrArg₂ (xOf m) (Fin.ext ?_) ?_
  · show o.val + 1 * 0 = o.val; omega
  · refine congrArg₂ ix2 (Fin.ext ?_) (Fin.ext ?_)
    · show 0 + 1 * r.val = r.val; omega
    · show 0 + 1 * k.val = k.val; omega

/-- Half `b` of device `o`'s rows, as the matrix the kernel multiplies. -/
def halfMat (o : Dev nD) (b : Fin 2) : Vec F S256x8192 .f32 := (halfOf (halfAt o b)).view.read (Elt F) (gathered m)

theorem half_row_lt (b : Fin 2) (r : Fin 256) : 256 * b.val + r.val < 512 := by omega

omit [FloatOps F] in
/-- Row `r` of half `b` is row `256 b + r` of the device. -/
theorem halfMat_apply (o : Dev nD) (b : Fin 2) (r : Fin 256) (k : Fin 8192) :
    halfMat m o b (ix2 r k) = xOf m o (ix2 ⟨256 * b.val + r.val, half_row_lt b r⟩ k) := by
  show gathered m ((Rect.unit (s := S16x512x8192) ![o.val, 256 * b.val, 0] S1x256x8192.size (half_inb o b)).emb
    (Shape.reshapeEquiv squeezes_S1x256x8192_S256x8192.numel_eq (ix2 r k))) = _
  rw [reshapeEquiv_ix2_1ab]
  unfold gathered
  refine congrArg₂ (xOf m) (Fin.ext ?_) ?_
  · show o.val + 1 * 0 = o.val; omega
  · refine congrArg₂ ix2 (Fin.ext ?_) (Fin.ext ?_)
    · show 256 * b.val + 1 * r.val = 256 * b.val + r.val; omega
    · show 0 + 1 * k.val = k.val; omega

/-- 256 rows times a device's columns, each entry `y` taken to `y * logistic y`. -/
def act (a : Vec F S256x8192 .f32) (w : Vec F S8192x256 .f32) : FVec F S256x256 .f32 :=
  mulf (matmul dot_S256x8192_S8192x256_S256x256_1_0_0_1_n_n none a w (constant S256x256 .f32 0x00000000#32))
    (logistic (matmul dot_S256x8192_S8192x256_S256x256_1_0_0_1_n_n none a w (constant S256x256 .f32 0x00000000#32)))

/-- What the body stores, of the staged half `v` and the weights. -/
theorem pay_eq (v : Vec F S1x256x8192 .f32) (w : Vec F S8192x256 .f32) :
    k0_pay1 v w = act (shapeCast S256x8192 v shapeCasts_S1x256x8192_S256x8192) w := by
  have e : shapeCast S8192x256 w shapeCasts_S8192x256_S8192x256 = w := by
    funext x; unfold shapeCast; rw [Shape.reshapeEquiv_self]
  show act (shapeCast S256x8192 v shapeCasts_S1x256x8192_S256x8192) (shapeCast S8192x256 w shapeCasts_S8192x256_S8192x256) = _
  rw [e]

/-- A staged half, loaded and cast to a matrix, is what was copied in. -/
theorem staged_read (n : Fin 4) (fd : (cc0_scratch5 : Ref sig .tc).ty.Contents (Elt F)) (a : Vec F S256x8192 .f32) :
    shapeCast S256x8192 (stag.view.readAt (Elt F) (slotRect n).toLoadRect ((slotOf n).view.write (Elt F) fd a Finset.univ))
      shapeCasts_S1x256x8192_S256x8192 = a := by
  show (slotOf n).view.read (Elt F) ((slotOf n).view.write (Elt F) fd a Finset.univ) = a
  exact View.read_write_univ _ _

/-- The result of device `c`: entry `(y, q)` from row `y % 256` of half `y / 256 % 2` of device `y / 512`. -/
def result (c : Dev nD) : (cc0_stg1_0 : Ref sig .tc).ty.Contents (Elt F) := fun y =>
  have y' : S8192x256.Idx := y
  act (halfMat m ⟨(y' 0).val / 512, by have := (y' 0).isLt; have h : (y' 0).val < 8192 := this; show _ < 16; omega⟩
      ⟨(y' 0).val / 256 % 2, Nat.mod_lt _ (by decide)⟩) (wOf m c) (ix2 ⟨(y' 0).val % 256, Nat.mod_lt _ (by decide)⟩ (y' 1))

/-- Where the product of half `b` of device `o` is stored. -/
abbrev outRect (o : Dev nD) (b : Fin 2) : Rect S8192x256 := Rect.unit (s := S8192x256) (outAt o b).1 S256x256.size (outAt o b).2
/-- The elements of the output it is stored to. -/
abbrev outSet (o : Dev nD) (b : Fin 2) : Finset ((cc0_stg1_0 : Ref sig .tc).ty.Idx) := (outb.access (outRect o b)).setOn Finset.univ

/-- The product stored at its rows is the result there. -/
theorem out_write_mem (c o : Dev nD) (b : Fin 2) (f : (cc0_stg1_0 : Ref sig .tc).ty.Contents (Elt F)) {i} (hi : i ∈ outSet o b) :
    (outb.access (outRect o b)).write (Elt F) f (act (halfMat m o b) (wOf m c)) Finset.univ i = result m c i := by
  obtain ⟨x, hx, rfl⟩ := Finset.mem_map.mp hi
  rw [View.write_emb_of_mem _ _ hx]
  obtain ⟨r, q, rfl⟩ : ∃ (r : Fin 256) (q : Fin 256), x = ix2 r q := ⟨x 0, x 1, by funext a; fin_cases a <;> rfl⟩
  have e0 : (512 * o.val + 256 * b.val + 1 * r.val) / 512 = o.val := by omega
  have e1 : (512 * o.val + 256 * b.val + 1 * r.val) / 256 % 2 = b.val := by omega
  have e2 : (512 * o.val + 256 * b.val + 1 * r.val) % 256 = r.val := by omega
  show act (halfMat m o b) (wOf m c) (ix2 r q) = act (halfMat m ⟨(512 * o.val + 256 * b.val + 1 * r.val) / 512, _⟩
    ⟨(512 * o.val + 256 * b.val + 1 * r.val) / 256 % 2, _⟩) (wOf m c) (ix2 ⟨(512 * o.val + 256 * b.val + 1 * r.val) % 256, _⟩ ⟨0 + 1 * q.val, _⟩)
  refine congr (congrArg (fun a => act a (wOf m c)) (congrArg₂ (halfMat m) (Fin.ext e0.symm) (Fin.ext e1.symm))) ?_
  · exact congrArg₂ ix2 (Fin.ext e2.symm) (Fin.ext (by show q.val = 0 + 1 * q.val; omega))

theorem out_write_not_mem (o : Dev nD) (b : Fin 2) (f : (cc0_stg1_0 : Ref sig .tc).ty.Contents (Elt F)) (w : FVec F S256x256 .f32) {i} (hi : i ∉ outSet o b) :
    (outb.access (outRect o b)).write (Elt F) f w Finset.univ i = f i := View.write_of_not_mem _ _ _ hi

/-- An element of the output by coordinates. -/
abbrev at2 (i : (cc0_stg1_0 : Ref sig .tc).ty.Idx) : S8192x256.Idx := i

theorem mem_out {o : Dev nD} {b : Fin 2} {i : (cc0_stg1_0 : Ref sig .tc).ty.Idx} (h : 512 * o.val + 256 * b.val ≤ (at2 i 0).val)
    (h' : (at2 i 0).val < 512 * o.val + 256 * b.val + 256) : i ∈ outSet o b := by
  show i ∈ ((View.whole cc0_stg1_0).slice (outRect o b)).set
  rw [View.set_slice_whole]
  refine (LoadRect.mem_set _).mpr fun a => ?_
  match a with
  | ⟨0, _⟩ => exact ⟨(at2 i 0).val - (512 * o.val + 256 * b.val), by show _ < 256; omega,
      by show (at2 i 0).val = 512 * o.val + 256 * b.val + 1 * _; omega⟩
  | ⟨1, _⟩ => exact ⟨(at2 i 1).val, (at2 i 1).isLt, by show (at2 i 1).val = 0 + 1 * _; omega⟩

/-- After a whole lap in the two directions every element of the output has been stored. -/
theorem out_cover (d : Dev nD) (i : (cc0_stg1_0 : Ref sig .tc).ty.Idx) : ∃ (b : Fin 2) (j : Fin 16), i ∈ outSet (src b d j) b := by
  have hlt : (at2 i 0).val < 8192 := (at2 i 0).isLt
  obtain ⟨j, hj⟩ := src_surj ⟨(at2 i 0).val / 256 % 2, Nat.mod_lt _ (by decide)⟩ d ⟨(at2 i 0).val / 512, by show _ < 16; omega⟩
  refine ⟨⟨(at2 i 0).val / 256 % 2, Nat.mod_lt _ (by decide)⟩, j, ?_⟩
  rw [hj]
  refine mem_out ?_ ?_
  · show 512 * ((at2 i 0).val / 512) + 256 * ((at2 i 0).val / 256 % 2) ≤ _; omega
  · show _ < 512 * ((at2 i 0).val / 512) + 256 * ((at2 i 0).val / 256 % 2) + 256; omega

end Cert.KernelIdeal.Ring

end
-- ==== Proof.Ring.Protocol.lean ====
/-
  The protocol of the ring: which semaphore cells are shared between devices, what each raise of a cell hands over,
  what a device owes to others, and the levels that order the waits.

  A device's barrier cell is raised once by each neighbour; the raise hands over the halves of that neighbour's gather
  buffer which the device will fill in that direction. A receive cell is raised once, by the transfer that fills a
  half, and hands that half over. A send cell is raised once by the device's own transfer and hands nothing over.
-/
module

public import proofs.«01_k».proof.Proof.Ring.Contents
public import proofs.«01_k».proof.Proof.Gen.KernelIdeal.Launch
public import Idealize.ShloMosaic.Lib.Pipeline.Launch
public import Idealize.ShloMosaic.Lib.Pipeline.Kit
public import Idealize.ShloMosaic.Lib.SparseCore.ProtocolKit
public import Idealize.ShloMosaic.Lib.Tactic

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ### Ghost state -/

abbrev UB : Type := URounds (GSem nD τ sig) (Fin 2)
/-- The staging pipeline's rounds, the ring's rounds, and counters for transfers within a device. -/
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ)

/-! ### Cells -/

abbrev barCell (c : Dev nD) : GSem nD τ sig := ((c : Thread nD τ), .reg barrier0)
abbrev sendCell (c : Dev nD) (b : Fin 2) (j : Fin 15) : GSem nD τ sig := ((c : Thread nD τ), .dma (sendSem b j))
abbrev recvCell (c : Dev nD) (b : Fin 2) (j : Fin 15) : GSem nD τ sig := ((c : Thread nD τ), .dma (recvSem b j))

/-- The amount a transfer of a half raises a cell by. -/
abbrev N : ℕ := (halfOf (halfAt 0 0)).view.dmaCredit
theorem N_pos : 0 < N := View.dmaCredit_pos _ (by decide)

/-- A DMA semaphore of the ring, by number. -/
abbrev InRing (s : DmaSem sig) : Prop := 3 ≤ s.val ∧ s.val < 63
/-- Of those, one that arrivals raise. -/
abbrev IsRecv (s : DmaSem sig) : Prop := InRing s ∧ (s.val - 3) / 15 % 2 = 1
/-- Its direction and step. -/
abbrev dirOf (s : DmaSem sig) : Fin 2 := ⟨(s.val - 3) / 30 % 2, Nat.mod_lt _ (by decide)⟩
abbrev stepOf (s : DmaSem sig) : Fin 15 := ⟨(s.val - 3) % 15, Nat.mod_lt _ (by decide)⟩

theorem send_inRing (b : Fin 2) (j : Fin 15) : InRing (sendSem b j) := by revert b j; decide
theorem recv_inRing (b : Fin 2) (j : Fin 15) : InRing (recvSem b j) := by revert b j; decide
theorem recv_isRecv (b : Fin 2) (j : Fin 15) : IsRecv (recvSem b j) := by revert b j; decide
theorem send_not_isRecv (b : Fin 2) (j : Fin 15) : ¬ IsRecv (sendSem b j) := by revert b j; decide
theorem dirOf_recv (b : Fin 2) (j : Fin 15) : dirOf (recvSem b j) = b := by revert b j; decide
theorem stepOf_recv (b : Fin 2) (j : Fin 15) : stepOf (recvSem b j) = j := by revert b j; decide

/-! ### What is handed over -/

/-- Half `b` of device `o`'s rows in device `c`'s gather buffer, at share `q`, holding `f`. -/
def halfPts (c o : Dev nD) (b : Fin 2) (q : PosShare TreeShare) (f : (main_v1_1 : Ref sig .tc).ty.Contents (Elt F)) : sProp 𝕄 :=
  (halfOf (halfAt o b)).view.loc (c : Thread nD τ) ↦[(halfOf (halfAt o b)).view.set]{q} f

instance halfPts_storable (c o : Dev nD) (b : Fin 2) (q : PosShare TreeShare) (f) : BI.Storable (upEmb : UEmb _ 𝕄) (halfPts (F := F) c o b q f) := by
  unfold halfPts; infer_instance

/-- The half of the neighbour's gather buffer that step `j` in direction `b` fills, holding anything. -/
def pad (c : Dev nD) (b : Fin 2) (j : Fin 15) : sProp 𝕄 := iprop(∃ f, halfPts (peer b c) (src b c j.castSucc) b fullShare f)

instance pad_storable (c : Dev nD) (b : Fin 2) (j : Fin 15) : BI.Storable (upEmb : UEmb _ 𝕄) (pad (F := F) c b j) := by
  unfold pad; infer_instance

def barPay (c : Dev nD) (b : Fin 2) : sProp 𝕄 := bigSep Finset.univ fun j : Fin 15 => pad c b j
def recvPay (c : Dev nD) (b : Fin 2) (j : Fin 15) : sProp 𝕄 := halfPts c (src b c j.succ) b fullShare (gathered m)

instance barPay_storable (c : Dev nD) (b : Fin 2) : BI.Storable (upEmb : UEmb _ 𝕄) (barPay (F := F) c b) := by
  unfold barPay; infer_instance

/-- One round per cell. -/
def ringRd : Rounds.Schedule (GSem nD τ sig) (Fin 2) 𝕄 where
  duties g r := if r = 0 ∧ g.1.2 = .tc then
      (match g.2 with | .reg s => if s = barrier0 then Finset.univ else ∅ | .dma s => if InRing s then {0} else ∅)
    else ∅
  unitless _ := False
  amount g _ _ := match g.2 with | .reg _ => 1 | .dma _ => N
  payload g _ d := match g.2 with
    | .reg _ => barPay g.1.1 d
    | .dma s => if IsRecv s then recvPay m g.1.1 (dirOf s) (stepOf s) else iprop(emp)
  amount_pos g _ _ _ := by
    rcases g with ⟨t, _ | _⟩
    · exact Nat.one_pos
    · exact N_pos

instance ringRd_payload_storable (g : GSem nD τ sig) (r : ℕ) (d : Fin 2) : BI.Storable (upEmb : UEmb _ 𝕄) ((ringRd (F := F) m).payload g r d) := by
  rcases g with ⟨t, s | s⟩
  · show BI.Storable upEmb (barPay t.1 d); infer_instance
  · show BI.Storable upEmb (if IsRecv s then recvPay m t.1 (dirOf s) (stepOf s) else iprop(emp))
    unfold recvPay
    split <;> infer_instance

section Sched
variable (c : Dev nD) (b : Fin 2) (j : Fin 15)

theorem duties_bar : (ringRd m).duties (barCell c) 0 = Finset.univ := by
  show (if (0 : ℕ) = 0 ∧ (c : Thread nD τ).2 = .tc then (if barrier0 = barrier0 then Finset.univ else ∅) else ∅) = _
  rw [if_pos ⟨rfl, rfl⟩, if_pos rfl]
theorem duties_dma (s : DmaSem sig) (h : InRing s) : (ringRd m).duties ((c : Thread nD τ), .dma s) 0 = {0} := by
  show (if (0 : ℕ) = 0 ∧ (c : Thread nD τ).2 = .tc then (if InRing s then {0} else ∅) else ∅) = _
  rw [if_pos ⟨rfl, rfl⟩, if_pos h]
theorem duties_later (g : GSem nD τ sig) : ∀ r, 1 ≤ r → (ringRd m).duties g r = ∅ :=
  fun r hr => by dsimp only [ringRd]; rw [if_neg fun h => by omega]

theorem expect_bar : (ringRd m).expect (barCell c) 0 = 2 := by
  unfold Schedule.expect Schedule.amountOf
  rw [duties_bar]; rfl
theorem expect_dma (s : DmaSem sig) (h : InRing s) : (ringRd m).expect ((c : Thread nD τ), .dma s) 0 = N := by
  unfold Schedule.expect Schedule.amountOf; rw [duties_dma m c s h, Finset.sum_singleton]; rfl

theorem payload_bar (d : Fin 2) : (ringRd m).payload (barCell c) 0 d = barPay c d := rfl
theorem payload_send (d : Fin 2) : (ringRd m).payload (sendCell c b j) 0 d = iprop(emp) := if_neg (send_not_isRecv b j)
theorem payload_recv (d : Fin 2) : (ringRd m).payload (recvCell c b j) 0 d = recvPay m c b j := by
  refine (if_pos (recv_isRecv b j)).trans ?_
  show recvPay m c (dirOf (recvSem b j)) (stepOf (recvSem b j)) = _
  rw [dirOf_recv, stepOf_recv]

theorem rest_bar : bigSep ((ringRd m).duties (barCell c) 0 \ ∅) (fun d => (ringRd m).payload (barCell c) 0 d) = iprop(barPay c 0 ∗ barPay c 1) := by
  rw [Finset.sdiff_empty, duties_bar, bigSep_fin_two]; rfl
theorem rest_recv : bigSep ((ringRd m).duties (recvCell c b j) 0 \ ∅) (fun d => (ringRd m).payload (recvCell c b j) 0 d) = recvPay m c b j := by
  rw [Finset.sdiff_empty, duties_dma m c _ (recv_inRing b j), bigSep_singleton, payload_recv]

end Sched

/-! ### What a device owes, and the levels -/

/-- The arrivals a device still owes when `n` steps are left, step 14 innermost. -/
def steps (c : Dev nD) : ℕ → CellTallies nD τ sig Unit
  | 0 => 0
  | n + 1 => (steps c n + tallyAt (recvCell (peer 1 c) 1 ⟨14 - n, by omega⟩) () N) + tallyAt (recvCell (peer 0 c) 0 ⟨14 - n, by omega⟩) () N

/-- What it owes after its first signal. -/
def O₁ (c : Dev nD) : CellTallies nD τ sig Unit := steps c 15 + tallyAt (barCell (peer 0 c)) () 1
/-- What it owes at launch. -/
def O₀ (c : Dev nD) : CellTallies nD τ sig Unit := O₁ c + tallyAt (barCell (peer 1 c)) () 1

def L (g : GSem nD τ sig) : Finset Unit := if g.1.2 = .tc then {()} else ∅
/-- Barrier cells at 1, arrivals of step `j` at `2 + j`, everything else at 0. -/
def lv (g : GSem nD τ sig) (_ : Unit) : ℕ := match g.2 with
  | .reg _ => 1
  | .dma s => if IsRecv s then 2 + (stepOf s).val else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (b : Fin 2) (j : Fin 15) (u : Unit) : lv (recvCell c b j) u = 2 + j.val := by
  refine (if_pos (recv_isRecv b j)).trans ?_
  rw [stepOf_recv]

theorem tally_pos {g g' : GSem nD τ sig} {u u' : Unit} {k : ℕ} (h : 0 < (tallyAt g u k : CellTallies nD τ sig Unit) g' u') : g' = g := by
  rw [tallyAt_apply] at h
  by_contra hn
  rw [if_neg (fun h' => hn h'.1)] at h
  exact Nat.lt_irrefl 0 h

theorem steps_pos {c : Dev nD} {g : GSem nD τ sig} {u : Unit} : ∀ {n : ℕ}, n ≤ 15 → 0 < steps c n g u →
    ∃ (b : Fin 2) (j : Fin 15), g = recvCell (peer b c) b j ∧ 15 ≤ n + j.val
  | 0, _, h => absurd h (Nat.lt_irrefl 0)
  | n + 1, hn, h => by
    rw [steps, Pi.add_apply, Finsupp.add_apply, Pi.add_apply, Finsupp.add_apply] at h
    rcases Nat.eq_zero_or_pos (steps c n g u) with h0 | h0
    · rw [h0, Nat.zero_add] at h
      rcases Nat.eq_zero_or_pos ((tallyAt (recvCell (peer 1 c) 1 ⟨14 - n, by omega⟩) () N : CellTallies nD τ sig Unit) g u) with h1 | h1
      · rw [h1, Nat.zero_add] at h
        exact ⟨0, ⟨14 - n, by omega⟩, tally_pos h, by show 15 ≤ n + 1 + (14 - n); omega⟩
      · exact ⟨1, ⟨14 - n, by omega⟩, tally_pos h1, by show 15 ≤ n + 1 + (14 - n); omega⟩
    · obtain ⟨b, j, hg, hj⟩ := steps_pos (by omega) h0
      exact ⟨b, j, hg, by omega⟩

/-- What is owed at launch is owed to a TensorCore's cell of level at least 1. -/
theorem O₀_pos {c : Dev nD} {g : GSem nD τ sig} {u : Unit} (h : 0 < O₀ c g u) : u ∈ L g ∧ 0 < lv g u := by
  unfold O₀ O₁ at h
  rw [Pi.add_apply, Finsupp.add_apply, Pi.add_apply, Finsupp.add_apply] at h
  have hb : ∀ d, u ∈ L (barCell d) ∧ 0 < lv (barCell d) u := fun d => ⟨by rw [L_tc]; exact Finset.mem_singleton_self _, Nat.one_pos⟩
  rcases Nat.eq_zero_or_pos (steps c 15 g u) with h0 | h0
  · rw [h0, Nat.zero_add] at h
    rcases Nat.eq_zero_or_pos ((tallyAt (barCell (peer 0 c)) () 1 : CellTallies nD τ sig Unit) g u) with h1 | h1
    · rw [h1, Nat.zero_add] at h
      rw [tally_pos h]; exact hb _
    · rw [tally_pos h1]; exact hb _
  · obtain ⟨b, j, rfl, -⟩ := steps_pos le_rfl h0
    exact ⟨by rw [L_tc]; exact Finset.mem_singleton_self _, by rw [lv_recv]; omega⟩

/-- A wait on a cell whose level is below every arrival still owed. -/
theorem mayWait_steps (c : Dev nD) (sm : SemLoc sig) (n : ℕ) (hn : n ≤ 15) (h : lv ((c : Thread nD τ), sm) () < 17 - n) :
    (levAts L lv : sProp 𝕄) ⊢ MayWait (c : Thread nD τ) sm () (steps c n) :=
  MayOwe.of_cut (L := L) (lev := lv) (lv ((c : Thread nD τ), sm) ()) (fun p hp => by rw [Finset.mem_singleton.mp hp, L_tc]; exact Finset.mem_singleton_self _)
    (fun g u hg => by obtain ⟨b, j, rfl, -⟩ := steps_pos hn hg; rw [L_tc]; exact Finset.mem_singleton_self _)
    (fun p hp => by rw [Finset.mem_singleton.mp hp])
    (fun g u hg => by obtain ⟨b, j, rfl, hj⟩ := steps_pos hn hg; rw [lv_recv]; omega)

theorem lv_low (c : Dev nD) (s : DmaSem sig) (h : ¬ IsRecv s) : lv ((c : Thread nD τ), .dma s) () = 0 := if_neg h

/-- A wait on a cell of level 0 of the device itself. -/
theorem mayWait_low (c : Dev nD) (s : DmaSem sig) (h : ¬ IsRecv s) (n : ℕ) (hn : n ≤ 15) :
    (levAts L lv : sProp 𝕄) ⊢ MayWait (c : Thread nD τ) (.dma s) () (steps c n) :=
  mayWait_steps c _ n hn (by rw [lv_low c s h]; omega)

/-- The staging pipeline's waits, before and after the body. -/
theorem mayWait_stage (c : Dev nD) (s : DmaSem sig) (h : ¬ IsRecv s) (O : CellTallies nD τ sig Unit) (hO : O = O₀ c ∨ O = 0) :
    (levAts L lv : sProp 𝕄) ⊢ MayWait (c : Thread nD τ) (.dma s) () O := by
  rcases hO with rfl | rfl
  · exact MayOwe.of_cut (L := L) (lev := lv) 0 (fun p hp => by rw [Finset.mem_singleton.mp hp, L_tc]; exact Finset.mem_singleton_self _)
      (fun g u hg => (O₀_pos hg).1) (fun p hp => by rw [Finset.mem_singleton.mp hp]; exact le_of_eq (lv_low c s h)) (fun g u hg => (O₀_pos hg).2)
  · rw [MayWait_zero]; iintro -; iempintro

end Cert.KernelIdeal.Ring

end
-- ==== Proof.Ring.Steps.lean ====
/-
  The operations of the body, each as one rule stated for every direction and step: a wait for an arrival, a wait for a
  departure, a send, and a product of one half.
-/
module

public import proofs.«01_k».proof.Proof.Ring.Protocol
public import Idealize.ShloMosaic.Lib.Transfers

@[expose] public section

set_option maxRecDepth 8000

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Device `c` runs `k` and ends in `Q`. -/
abbrev Runs (c : Dev nD) (k : TcProg F) (Q : PUnit.{1} → sProp 𝕄) : sProp 𝕄 :=
  wp frame (wpE (defs₀ (F := F)) 𝒱₀ (c : Thread nD τ) none) Set.univ k Q

/-- One of a family. -/
theorem one_of {I : Type} [DecidableEq I] {s : Finset I} {i : I} (h : i ∈ s) (Φ : I → sProp 𝕄) : (bigSep s Φ : sProp 𝕄) ⊢ Φ i := bigSep_elim h
/-- One of a family, and the rest of it. -/
theorem one_and_rest {I : Type} [DecidableEq I] {s : Finset I} {i : I} (h : i ∈ s) (Φ : I → sProp 𝕄) :
    bigSep s Φ = iprop(Φ i ∗ bigSep (s.erase i) Φ) := bigSep_erase h

/-! ### The shared cells -/

/-- A device's cells: its barrier cell, and per direction and step a send cell (`false`) and a receive cell (`true`). -/
abbrev CI : Type := Option (Bool × Fin 2 × Fin 15)

def ringSem : Bool × Fin 2 × Fin 15 → DmaSem sig
  | (false, b, j) => sendSem b j
  | (true, b, j) => recvSem b j

def kcell : Dev nD × CI → GSem nD τ sig
  | (c, none) => barCell c
  | (c, some x) => ((c : Thread nD τ), .dma (ringSem x))

variable (K : Dev nD × CI → ℕ)

/-- What every device may use again and again: the invariant of every cell, that every cell is at its round 0, and the levels. -/
def env : sProp 𝕄 :=
  iprop((bigSep Finset.univ fun x => cellInv ER (ringRd m) (K x) (kcell x)) ∗ (bigSep Finset.univ fun x => reached ER (kcell x) 0) ∗ levAts L lv)

instance env_persistent : BI.Persistent (env m K) := by unfold env; infer_instance

theorem env_inv (x : Dev nD × CI) : env m K ⊢ cellInv ER (ringRd m) (K x) (kcell x) := by
  unfold env
  iintro ⟨#H, -, -⟩
  iapply (one_of (Finset.mem_univ x) fun x => cellInv ER (ringRd m) (K x) (kcell x)) $$ H
theorem env_reached (x : Dev nD × CI) : env m K ⊢ reached ER (kcell x) 0 := by
  unfold env
  iintro ⟨-, #H, -⟩
  iapply (one_of (Finset.mem_univ x) fun x => reached ER (kcell x) 0) $$ H
theorem env_recv (c : Dev nD) (b : Fin 2) (j : Fin 15) :
    env m K ⊢ iprop(cellInv ER (ringRd m) (K (c, some (true, b, j))) (recvCell c b j) ∗ reached ER (recvCell c b j) 0) := by
  iintro #H
  isplitr
  · iapply (env_inv m K (c, some (true, b, j))) $$ H
  · iapply (env_reached m K (c, some (true, b, j))) $$ H
theorem env_send (c : Dev nD) (b : Fin 2) (j : Fin 15) :
    env m K ⊢ iprop(cellInv ER (ringRd m) (K (c, some (false, b, j))) (sendCell c b j) ∗ reached ER (sendCell c b j) 0) := by
  iintro #H
  isplitr
  · iapply (env_inv m K (c, some (false, b, j))) $$ H
  · iapply (env_reached m K (c, some (false, b, j))) $$ H
theorem env_bar (c : Dev nD) :
    env m K ⊢ iprop(cellInv ER (ringRd m) (K (c, none)) (barCell c) ∗ reached ER (barCell c) 0) := by
  iintro #H
  isplitr
  · iapply (env_inv m K (c, none)) $$ H
  · iapply (env_reached m K (c, none)) $$ H
theorem env_lev : env m K ⊢ levAts L lv := by
  unfold env
  iintro ⟨-, -, #H⟩
  iexact H

/-- What device `c` owes, whatever it has waited on. -/
def ow (c : Dev nD) (O : CellTallies nD τ sig Unit) : sProp 𝕄 := iprop(∃ W, owes (c : Thread nD τ) O W)

/-! ### Waits and sends -/

variable (c : Dev nD) (b : Fin 2)

/-- Wait for an arrival: the half that arrived, and the cell closed. -/
theorem wp_recv {k : TcProg F} {Q : PUnit.{1} → sProp 𝕄} (j : Fin 15) (n : ℕ) (hn : n + j.val = 14) :
    iprop(env m K ∗ ow c (steps c n) ∗ atPos ER (recvCell c b j) 0 ∅ 0 ∗ cred (tallyAt (recvCell c b j) () N))
      ⊢ iprop((iprop(ow c (steps c n) ∗ semVal (recvCell c b j) 0 ∗ recvPay m c b j) -∗ Runs c k Q) -∗ Runs c (ring.waitRecv c b j k) Q) := by
  unfold ow
  dsimp only [Places.waitRecv, ring]
  iintro ⟨#He, ⟨%W, HO⟩, Hat, Hc⟩ Hk
  ihave ⟨#HI, -⟩ := (env_recv m K c b j) $$ He
  ihave #Hl := (env_lev m K) $$ He
  iapply (Rounds.wp_wait_rest_token 𝒱₀ ER (ringRd m) (c : Thread nD τ) none (κ := K (c, some (true, b, j)))
      (wpE_waitDma2_eq 𝒱₀ (c : Thread nD τ) none Set.univ) (Set.mem_univ _) () (O := steps c n) (W := W) (R := 0) (m := 0) (T := ∅)
      (by rw [Nat.zero_add]; exact (expect_dma m c _ (recv_inRing b j)).symm)) $$ [Hc HO Hat]
  · isplitr; · iexact HI
    isplitl [Hc]; · iexact Hc
    isplitl [HO]; · iexact HO
    isplitr; · iapply (mayWait_steps c (.dma (recvSem b j)) n (by omega) (by rw [lv_recv]; omega)); iexact Hl
    iexact Hat
  iintro ⟨HO, Hat, -, Hp⟩
  ihave Hp' := (Entails.of_eq (rest_recv m c b j)) $$ Hp
  imod (Rounds.cell_close ER (ringRd m) (Set.mem_univ (K (c, some (true, b, j)))) (fun h => h) (R := 0 + 1) (duties_later m (recvCell c b j))) $$ [Hat] with Hz
  · isplitr; · iexact HI
    iexact Hat
  iapply Hk
  isplitl [HO]; · iexists _; iexact HO
  isplitl [Hz] <;> iassumption

/-- Wait for a departure: the cell closed. -/
theorem wp_sent {k : TcProg F} {Q : PUnit.{1} → sProp 𝕄} (j : Fin 15) (n : ℕ) (hn : n ≤ 15) :
    iprop(env m K ∗ ow c (steps c n) ∗ atPos ER (sendCell c b j) 0 ∅ 0 ∗ cred (tallyAt (sendCell c b j) () N))
      ⊢ iprop((iprop(ow c (steps c n) ∗ semVal (sendCell c b j) 0) -∗ Runs c k Q) -∗ Runs c (ring.waitSend c b j k) Q) := by
  unfold ow
  dsimp only [Places.waitSend, ring]
  iintro ⟨#He, ⟨%W, HO⟩, Hat, Hc⟩ Hk
  ihave ⟨#HI, -⟩ := (env_send m K c b j) $$ He
  ihave #Hl := (env_lev m K) $$ He
  iapply (Rounds.wp_wait_rest_token 𝒱₀ ER (ringRd m) (c : Thread nD τ) none (κ := K (c, some (false, b, j)))
      (wpE_waitDma2_eq 𝒱₀ (c : Thread nD τ) none Set.univ) (Set.mem_univ _) () (O := steps c n) (W := W) (R := 0) (m := 0) (T := ∅)
      (by rw [Nat.zero_add]; exact (expect_dma m c _ (send_inRing b j)).symm)) $$ [Hc HO Hat]
  · isplitr; · iexact HI
    isplitl [Hc]; · iexact Hc
    isplitl [HO]; · iexact HO
    isplitr; · iapply (mayWait_low c (sendSem b j) (send_not_isRecv b j) n hn); iexact Hl
    iexact Hat
  iintro ⟨HO, Hat, -, -⟩
  imod (Rounds.cell_close ER (ringRd m) (Set.mem_univ (K (c, some (false, b, j)))) (fun h => h) (R := 0 + 1) (duties_later m (sendCell c b j))) $$ [Hat] with Hz
  · isplitr; · iexact HI
    iexact Hat
  iapply Hk
  isplitl [HO]; · iexists _; iexact HO
  iexact Hz

/-- Send a half on: the neighbour's arrival is no longer owed, and the departure can be waited for. -/
theorem wp_send {k : TcProg F} {Q : PUnit.{1} → sProp 𝕄} (j : Fin 15) (q : PosShare TreeShare) (O : CellTallies nD τ sig Unit) :
    iprop(env m K ∗ ow c (O + tallyAt (recvCell (peer b c) b j) () N) ∗ halfPts c (src b c j.castSucc) b q (gathered m) ∗ pad c b j
        ∗ dutyTok ER (sendCell c b j) 0 0 ∗ dutyTok ER (recvCell (peer b c) b j) 0 0)
      ⊢ iprop((iprop(ow c O ∗ cred (tallyAt (sendCell c b j) () N)) -∗ Runs c k Q) -∗ Runs c (ring.send c b j k) Q) := by
  unfold ow pad
  dsimp only [Places.send, ring]
  iintro ⟨#He, ⟨%W, HO⟩, Hs, ⟨%fd, Hd⟩, Ht, Ht'⟩ Hk
  ihave ⟨#HI, #Hr⟩ := (env_send m K c b j) $$ He
  ihave ⟨#HI', #Hr'⟩ := (env_recv m K (peer b c) b j) $$ He
  unfold halfPts
  iapply (Rounds.wp_send_pointsTo 𝒱₀ ER (ringRd m) (c : Thread nD τ) none (c' := (peer b c : Thread nD τ))
      (κ₁ := K (c, some (false, b, j))) (κ₂ := K (peer b c, some (true, b, j)))
      (r₁ := 0) (r₂ := 0) (d₁ := 0) (d₂ := 0) (fd := fd)
      (by rw [duties_dma m c _ (send_inRing b j)]; exact Finset.mem_singleton_self _)
      (by rw [duties_dma m (peer b c) _ (recv_inRing b j)]; exact Finset.mem_singleton_self _)
      () () N rfl rfl rfl O rfl (W := W)
      (by rw [payload_send]; exact fun _ _ => trivial)
      (by rw [payload_recv, recvPay, halfPts, src_peer]
          exact Entails.of_eq (pointsTo_congr fun i hi => write_read_of (halfOf (halfAt (src b c j.castSucc) b)).view fd (gathered m) i hi))) $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [HO]; · iexists _; iexact HO
  iexact Hc

/-! ### One product -/

/-- What the products use: the staging buffer and its four semaphores, the weights, and the output, already the result
    on the rows of the halves in `P`. -/
def work (P : Fin 2 → Fin 16 → Prop) : sProp 𝕄 :=
  iprop((∃ f, (c : Thread nD τ).loc cc0_scratch5 ↦{fullShare} f) ∗ (bigSep Finset.univ fun n : Fin 4 => semVal ((c : Thread nD τ), .dma (slotSem n)) 0)
    ∗ ((c : Thread nD τ).loc cc0_stg0_0 ↦{fullShare} wOf m c)
    ∗ ∃ f, ⌜∀ b j, P b j → ∀ i ∈ outSet (src b c j) b, f i = result m c i⌝ ∗ ((c : Thread nD τ).loc cc0_stg1_0 ↦{fullShare} f))

theorem slot_not_isRecv (n : Fin 4) : ¬ IsRecv (slotSem n) := by revert n; decide

theorem wts_read (f : (cc0_stg0_0 : Ref sig .tc).ty.Contents (Elt F)) :
    wts.view.readAt (Elt F) (Rect.unit (s := S8192x256) ![0, 0] S8192x256.size inb_S8192x256_S8192x256_0_0).toLoadRect f = f :=
  Memref.readAt_unit_zero (Elt F) cc0_stg0_0 (by funext a; fin_cases a <;> rfl) _ f

/-- The product of one half: its rows of the output become the result. -/
theorem wp_comp {k : TcProg F} {Q : PUnit.{1} → sProp 𝕄} (j : Fin 16) (n : ℕ) (hn : n ≤ 15) (q : PosShare TreeShare) (P P' : Fin 2 → Fin 16 → Prop)
    (hP : ∀ b' j', P' b' j' → P b' j' ∨ (b' = b ∧ j' = j)) :
    iprop(env m K ∗ ow c (steps c n) ∗ halfPts c (src b c j) b q (gathered m) ∗ work m c P)
      ⊢ iprop((iprop(ow c (steps c n) ∗ work m c P') -∗ Runs c k Q) -∗ Runs c (ring.comp c b j k) Q) := by
  unfold ow work halfPts
  dsimp only [Places.comp, ring]
  iintro ⟨#He, ⟨%W, HO⟩, Hh, ⟨%fs, Hs⟩, Hz, Hw, ⟨%f, %hf, Ho⟩⟩ Hk
  ihave #Hl := (env_lev m K) $$ He
  ihave Hz' := (Entails.of_eq (one_and_rest (Finset.mem_univ (slotNo b j)) _)) $$ Hz
  icases Hz' with ⟨Hz, Hzs⟩
  iapply (Transfers.wp_dmaLocal countersEmb 𝒱₀ (c : Thread nD τ) none () _ rfl (View.dmaCredit_pos _ (by decide)) (Finset.subset_univ _)) $$ [Hh Hs Hz]
  · isplitl [Hh]; · iexact Hh
    isplitl [Hs]; · iexact Hs
    iexact Hz
  iintro Hf
  iapply (Transfers.wp_waitLocalO countersEmb 𝒱₀ (c : Thread nD τ) none () rfl (O := steps c n) (W := W)) $$ [Hf HO]
  · isplitl [Hf]; · iexact Hf
    isplitl [HO]; · iexact HO
    iapply (mayWait_low c (slotSem (slotNo b j)) (slot_not_isRecv _) n hn); iexact Hl
  iintro ⟨⟨Hs, -⟩, Hz, HO⟩
  iapply (wp_load 𝒱₀ (c : Thread nD τ) none Set.univ (m := stag) (Finset.subset_univ _)) $$ Hs; iintro Hs
  iapply (wp_load 𝒱₀ (c : Thread nD τ) none Set.univ (m := wts) (Finset.subset_univ _)) $$ Hw; iintro Hw
  iapply (wp_load 𝒱₀ (c : Thread nD τ) none Set.univ (m := outb) (Finset.subset_univ _)) $$ Ho; iintro Ho
  rw [wts_read, pay_eq]
  iapply (wp_store 𝒱₀ (c : Thread nD τ) none Set.univ (m := outb) (r := outRect (src b c j) b) (Mk := Finset.univ) (Finset.subset_univ _)) $$ Ho; iintro Ho
  iapply Hk
  isplitl [HO]; · iexists _; iexact HO
  isplitl [Hs]; · iexists _; iexact Hs
  isplitl [Hz Hzs]
  · iapply (Entails.of_eq (one_and_rest (Finset.mem_univ (slotNo b j)) _).symm)
    isplitl [Hz] <;> iassumption
  isplitl [Hw]; · iexact Hw
  iexists _
  isplitr
  rotate_left
  · iexact Ho
  · ipureintro
    intro b' j' h i hi
    by_cases hm : i ∈ outSet (src b c j) b
    · have e := staged_read (slotNo b j) fs (halfMat m (src b c j) b)
      refine Eq.trans (congrFun (congrArg (fun a => (outb.access (outRect (src b c j) b)).write (Elt F) f (act a (wOf m c)) Finset.univ) e) i) ?_
      exact out_write_mem m c (src b c j) b f hm
    · rw [out_write_not_mem _ _ _ _ hm]
      rcases hP b' j' h with h' | ⟨rfl, rfl⟩
      · exact hf b' j' h' i hi
      · exact absurd hi hm

end Cert.KernelIdeal.Ring

end
-- ==== Proof.Ring.Body.lean ====
/-
  The body of the kernel on one device: the opening, fourteen hops by induction, the last hop.
-/
module

public import proofs.«01_k».proof.Proof.Ring.Steps

@[expose] public section

set_option maxRecDepth 8000

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (K : Dev nD × CI → ℕ) (c : Dev nD) (b : Fin 2)

/-! ### One direction at one hop -/

/-- An arrival that is still to be waited for. -/
def toRecv (j : Fin 15) : sProp 𝕄 := iprop(atPos ER (recvCell c b j) 0 ∅ 0 ∗ cred (tallyAt (recvCell c b j) () N))
/-- The tokens of a send that is still to be started. -/
def toSend (j : Fin 15) : sProp 𝕄 :=
  iprop(atPos ER (sendCell c b j) 0 ∅ 0 ∗ dutyTok ER (sendCell c b j) 0 0 ∗ dutyTok ER (recvCell (peer b c) b j) 0 0)
/-- A send that is under way. -/
def sending (j : Fin 15) : sProp 𝕄 := iprop(atPos ER (sendCell c b j) 0 ∅ 0 ∗ cred (tallyAt (sendCell c b j) () N))
/-- A step that is over. -/
def over (j : Fin 15) : sProp 𝕄 := iprop(semVal (sendCell c b j) 0 ∗ semVal (recvCell c b j) 0)

/-- Direction `b` before hop `h`: arrivals `h` onward and sends after `h` to come, send `h` under way, the steps before `h` over. -/
def dir (h : ℕ) (hh : h < 15) : sProp 𝕄 :=
  iprop(bigSep (finFrom 15 h) (toRecv c b) ∗ sending c b ⟨h, hh⟩ ∗ bigSep (finFrom 15 (h + 1)) (fun j => iprop(toSend c b j ∗ pad c b j))
    ∗ bigSep (finUpTo 15 h) (over c b))

/-- What hop `h` leaves alone of its direction. -/
def rest (h : ℕ) : sProp 𝕄 :=
  iprop(bigSep (finFrom 15 (h + 1)) (toRecv c b) ∗ bigSep (finFrom 15 (h + 1 + 1)) (fun j => iprop(toSend (F := F) c b j ∗ pad c b j))
    ∗ bigSep (finUpTo 15 h) (over c b))

/-- What hop `h` uses of its direction, -/
theorem dir_open (h : Fin 14) :
    dir (F := F) c b h.val (by omega) ⊢ iprop(toRecv c b h.castSucc ∗ sending c b h.castSucc ∗ (toSend c b h.succ ∗ pad c b h.succ) ∗ rest c b h.val) := by
  unfold dir rest
  rw [bigSep_finFrom_succ (k := h.val) (by omega) (toRecv c b), bigSep_finFrom_succ (k := h.val + 1) (by omega) (fun j => iprop(toSend c b j ∗ pad c b j))]
  iintro ⟨⟨H1, H2⟩, H3, ⟨H4, H5⟩, H6⟩
  isplitl [H1]; · iexact H1
  isplitl [H3]; · iexact H3
  isplitl [H4]; · iexact H4
  isplitl [H2]; · iexact H2
  isplitl [H5] <;> iassumption

/-- and what it leaves. -/
theorem dir_close (h : Fin 14) :
    iprop(over c b h.castSucc ∗ sending c b h.succ ∗ rest c b h.val) ⊢ dir (F := F) c b (h.val + 1) (by omega) := by
  unfold dir rest
  rw [bigSep_finUpTo_succ (k := h.val) (by omega) (over c b)]
  iintro ⟨H1, H2, ⟨H3, H4, H5⟩⟩
  isplitl [H3]; · iexact H3
  isplitl [H2]; · iexact H2
  isplitl [H4]; · iexact H4
  isplitl [H1]; · iexact H1
  iexact H5

/-- The halves of which the product is stored before hop `h`. -/
def upTo (h : ℕ) (_ : Fin 2) (i : Fin 16) : Prop := i.val ≤ h
/-- The same with one more half, of direction 0. -/
def half0 (h : ℕ) (b : Fin 2) (i : Fin 16) : Prop := i.val ≤ h ∨ (b = 0 ∧ i.val = h + 1)

/-- The state of device `c` before hop `h`, `n = 14 - h`. -/
def before (n h : ℕ) (hh : h < 15) : sProp 𝕄 :=
  iprop(ow c (steps c n) ∗ dir c 0 h hh ∗ dir c 1 h hh ∗ work m c (upTo h))

/-- The end of the body. -/
def atEnd : sProp 𝕄 := iprop(ow c 0 ∗ bigSep Finset.univ (over c 0) ∗ bigSep Finset.univ (over c 1) ∗ work m c (fun _ _ => True))

theorem steps_succ (n : ℕ) (h : Fin 15) (e : n + h.val = 14) :
    steps c (n + 1) = (steps c n + tallyAt (recvCell (peer 1 c) 1 h) () N) + tallyAt (recvCell (peer 0 c) 0 h) () N := by
  have e' : (⟨14 - n, by omega⟩ : Fin 15) = h := Fin.ext (by show 14 - n = h.val; omega)
  rw [steps, e']

/-- A received half, once for the next send and once for the product. -/
theorem half_twice (o : Dev nD) (f) :
    halfPts (F := F) c o b fullShare f ⊢ iprop(halfPts c o b fullShare.left f ∗ halfPts c o b fullShare.right f) := by
  unfold halfPts
  exact (pointsTo_share (PosShare.mem_left_op_right fullShare)).1

/-- One hop. -/
theorem hop_run {k : TcProg F} {Q : PUnit.{1} → sProp 𝕄} (h : Fin 14) (n : ℕ) (e : n + h.val = 13) :
    iprop(env m K ∗ before m c (n + 1) h.val (by omega))
      ⊢ iprop((before m c n (h.val + 1) (by omega) -∗ Runs c k Q) -∗ Runs c (ring.hop c h k) Q) := by
  have hs := steps_succ c n h.succ (by show n + (h.val + 1) = 14; omega)
  unfold before Places.hop
  iintro ⟨#He, HO, D0, D1, Hw⟩ Hk
  ihave ⟨R0, S0, ⟨T0, P0⟩, X0⟩ := (dir_open c 0 h) $$ D0
  ihave ⟨R1, S1, ⟨T1, P1⟩, X1⟩ := (dir_open c 1 h) $$ D1
  unfold toRecv
  icases R0 with ⟨A0, C0⟩
  icases R1 with ⟨A1, C1⟩
  iapply (wp_recv m K c 0 h.castSucc (n + 1) (by show n + 1 + h.val = 14; omega)) $$ [HO A0 C0]
  · isplitr; · iexact He
    isplitl [HO]; · iexact HO
    isplitl [A0] <;> iassumption
  iintro ⟨HO, Z0, H0⟩
  iapply (wp_recv m K c 1 h.castSucc (n + 1) (by show n + 1 + h.val = 14; omega)) $$ [HO A1 C1]
  · isplitr; · iexact He
    isplitl [HO]; · iexact HO
    isplitl [A1] <;> iassumption
  iintro ⟨HO, Z1, H1⟩
  unfold sending
  iapply (wp_sent m K c 0 h.castSucc (n + 1) (by omega)) $$ [HO S0]
  · isplitr; · iexact He
    isplitl [HO]; · iexact HO
    iexact S0
  iintro ⟨HO, Y0⟩
  iapply (wp_sent m K c 1 h.castSucc (n + 1) (by omega)) $$ [HO S1]
  · isplitr; · iexact He
    isplitl [HO]; · iexact HO
    iexact S1
  iintro ⟨HO, Y1⟩
  rw [hs]
  unfold recvPay toSend
  ihave ⟨H0, G0⟩ := (half_twice c 0 _ _) $$ H0
  ihave ⟨H1, G1⟩ := (half_twice c 1 _ _) $$ H1
  icases T0 with ⟨A0, T0, U0⟩
  icases T1 with ⟨A1, T1, U1⟩
  iapply (wp_send m K c 0 h.succ fullShare.left _) $$ [HO H0 P0 T0 U0]
  · isplitr; · iexact He
    isplitl [HO]; · iexact HO
    isplitl [H0]; · iexact H0
    isplitl [P0]; · iexact P0
    isplitl [T0] <;> iassumption
  iintro ⟨HO, C0⟩
  iapply (wp_send m K c 1 h.succ fullShare.left _) $$ [HO H1 P1 T1 U1]
  · isplitr; · iexact He
    isplitl [HO]; · iexact HO
    isplitl [H1]; · iexact H1
    isplitl [P1]; · iexact P1
    isplitl [T1] <;> iassumption
  iintro ⟨HO, C1⟩
  iapply (wp_comp m K c 0 h.succ.castSucc n (by omega) fullShare.right (upTo h.val) (half0 h.val)
      (fun b' j' hP => hP.imp_right fun ⟨h1, h2⟩ => ⟨h1, Fin.ext h2⟩)) $$ [HO G0 Hw]
  · isplitr; · iexact He
    isplitl [HO]; · iexact HO
    isplitl [G0]; · iexact G0
    iexact Hw
  iintro ⟨HO, Hw⟩
  iapply (wp_comp m K c 1 h.succ.castSucc n (by omega) fullShare.right (half0 h.val) (upTo (h.val + 1))
      (fun b' j' hP => by
        unfold upTo at hP; unfold half0
        rcases Nat.lt_or_ge h.val j'.val with hlt | hle
        · have hj : j'.val = h.val + 1 := by omega
          rcases (by decide : ∀ b : Fin 2, b = 0 ∨ b = 1) b' with rfl | rfl
          · exact .inl (.inr ⟨rfl, hj⟩)
          · exact .inr ⟨rfl, Fin.ext hj⟩
        · exact .inl (.inl hle))) $$ [HO G1 Hw]
  · isplitr; · iexact He
    isplitl [HO]; · iexact HO
    isplitl [G1]; · iexact G1
    iexact Hw
  iintro ⟨HO, Hw⟩
  iapply Hk
  isplitl [HO]; · iexact HO
  isplitl [Z0 Y0 A0 C0 X0]
  · iapply (dir_close c 0 h)
    unfold over sending
    isplitl [Z0 Y0]; · isplitl [Y0] <;> iassumption
    isplitl [A0 C0]; · isplitl [A0] <;> iassumption
    iexact X0
  isplitl [Z1 Y1 A1 C1 X1]
  · iapply (dir_close c 1 h)
    unfold over sending
    isplitl [Z1 Y1]; · isplitl [Y1] <;> iassumption
    isplitl [A1 C1]; · isplitl [A1] <;> iassumption
    iexact X1
  iexact Hw

/-- One direction before the last hop, -/
theorem dir_last : dir (F := F) c b 14 (by omega) ⊢ iprop(toRecv c b 14 ∗ sending c b 14 ∗ bigSep (finUpTo 15 14) (over c b)) := by
  unfold dir
  rw [bigSep_finFrom_succ (k := 14) (by omega) (toRecv c b)]
  iintro ⟨⟨H1, -⟩, H3, -, H6⟩
  isplitl [H1]; · iexact H1
  isplitl [H3]; · iexact H3
  iexact H6

/-- and after it. -/
theorem dir_over : iprop(over (F := F) c b 14 ∗ bigSep (finUpTo 15 14) (over c b)) ⊢ bigSep Finset.univ (over c b) := by
  rw [← bigSep_finUpTo_self, bigSep_finUpTo_succ (k := 14) (by omega) (over c b)]
  exact Entails.refl _

/-- The last hop. -/
theorem final_run {Q : PUnit.{1} → sProp 𝕄} :
    iprop(env m K ∗ before m c 0 14 (by omega) ∗ (atEnd m c -∗ Q ⟨⟩)) ⊢ Runs c (ring.final c) Q := by
  unfold before Places.final
  iintro ⟨#He, ⟨HO, D0, D1, Hw⟩, Hk⟩
  ihave ⟨R0, S0, X0⟩ := (dir_last c 0) $$ D0
  ihave ⟨R1, S1, X1⟩ := (dir_last c 1) $$ D1
  unfold toRecv
  icases R0 with ⟨A0, C0⟩
  icases R1 with ⟨A1, C1⟩
  iapply (wp_recv m K c 0 14 0 rfl) $$ [HO A0 C0]
  · isplitr; · iexact He
    isplitl [HO]; · iexact HO
    isplitl [A0] <;> iassumption
  iintro ⟨HO, Z0, H0⟩
  iapply (wp_recv m K c 1 14 0 rfl) $$ [HO A1 C1]
  · isplitr; · iexact He
    isplitl [HO]; · iexact HO
    isplitl [A1] <;> iassumption
  iintro ⟨HO, Z1, H1⟩
  unfold recvPay
  iapply (wp_comp m K c 0 15 0 (by omega) fullShare (upTo 14) (half0 14)
      (fun b' j' hP => hP.imp_right fun ⟨h1, h2⟩ => ⟨h1, Fin.ext h2⟩)) $$ [HO H0 Hw]
  · isplitr; · iexact He
    isplitl [HO]; · iexact HO
    isplitl [H0]; · iexact H0
    iexact Hw
  iintro ⟨HO, Hw⟩
  iapply (wp_comp m K c 1 15 0 (by omega) fullShare (half0 14) (fun _ _ => True)
      (fun b' j' _ => by
        unfold half0
        rcases Nat.lt_or_ge 14 j'.val with hlt | hle
        · have hj : j'.val = 15 := by omega
          rcases (by decide : ∀ b : Fin 2, b = 0 ∨ b = 1) b' with rfl | rfl
          · exact .inl (.inr ⟨rfl, hj⟩)
          · exact .inr ⟨rfl, Fin.ext hj⟩
        · exact .inl (.inl hle))) $$ [HO H1 Hw]
  · isplitr; · iexact He
    isplitl [HO]; · iexact HO
    isplitl [H1]; · iexact H1
    iexact Hw
  iintro ⟨HO, Hw⟩
  unfold sending
  iapply (wp_sent m K c 0 14 0 (by omega)) $$ [HO S0]
  · isplitr; · iexact He
    isplitl [HO]; · iexact HO
    iexact S0
  iintro ⟨HO, Y0⟩
  iapply (wp_sent m K c 1 14 0 (by omega)) $$ [HO S1]
  · isplitr; · iexact He
    isplitl [HO]; · iexact HO
    iexact S1
  iintro ⟨HO, Y1⟩
  unfold Runs
  rw [wp_ret]; imodintro
  iapply Hk
  unfold atEnd
  isplitl [HO]; · iexact HO
  isplitl [Z0 Y0 X0]
  · iapply (dir_over c 0)
    unfold over
    isplitl [Z0 Y0]; · isplitl [Y0] <;> iassumption
    iexact X0
  isplitl [Z1 Y1 X1]
  · iapply (dir_over c 1)
    unfold over
    isplitl [Z1 Y1]; · isplitl [Y1] <;> iassumption
    iexact X1
  iexact Hw

/-- The hops from `h` on, `n` of the fourteen and the last. -/
theorem hops_run {Q : PUnit.{1} → sProp 𝕄} : ∀ (n h : ℕ) (e : n + h = 14),
    iprop(env m K ∗ before m c n h (by omega) ∗ (atEnd m c -∗ Q ⟨⟩)) ⊢ Runs c (ring.hops c n) Q
  | 0, h, e => by
    obtain rfl : h = 14 := by omega
    exact final_run m K c
  | n + 1, h, e => by
    obtain rfl : h = 13 - n := by omega
    have hn : 13 - n < 14 := by omega
    show _ ⊢ Runs c (ring.hop c ⟨13 - n, hn⟩ (ring.hops c n)) Q
    iintro ⟨#He, HB, Hk⟩
    iapply (hop_run m K c ⟨13 - n, hn⟩ n (by show n + (13 - n) = 13; omega)) $$ [HB]
    · isplitr; · iexact He
      iexact HB
    iintro HB
    iapply (hops_run n (13 - n + 1) (by omega))
    isplitr; · iexact He
    isplitl [HB] <;> iassumption

/-! ### The opening -/

/-- A device's rows of the left operand, as its own copy reads them. -/
def xPts : sProp 𝕄 := xin.view.loc (c : Thread nD τ) ↦[xin.view.set]{fullShare} m ((c : Thread nD τ).loc main_arg0)

theorem xPts_whole : xPts m c = ((c : Thread nD τ).loc main_arg0 ↦{fullShare} m ((c : Thread nD τ).loc main_arg0) : sProp 𝕄) := by
  unfold xPts; rw [View.set_whole]

/-- What the body runs on, besides `env`. -/
def atStart : sProp 𝕄 :=
  iprop(ow c (O₀ c) ∗ (atPos ER (barCell c) 0 ∅ 0 ∗ dutyTok ER (barCell (peer 1 c)) 0 0 ∗ dutyTok ER (barCell (peer 0 c)) 0 1 ∗ cred (tallyAt (barCell c) () 2))
    ∗ (bigSep Finset.univ (toRecv c 0) ∗ bigSep Finset.univ (toSend c 0)) ∗ (bigSep Finset.univ (toRecv c 1) ∗ bigSep Finset.univ (toSend c 1))
    ∗ semVal ((c : Thread nD τ), .dma xSem) 0 ∗ xPts m c
    ∗ (∃ f, (c : Thread nD τ).loc main_v1_1 ↦{fullShare} f) ∗ work m c (fun _ _ => False))

/-- A family over sixteen: the first and the others. -/
theorem first_rest (Φ : Fin 16 → sProp 𝕄) : bigSep Finset.univ Φ = iprop(Φ 0 ∗ bigSep Finset.univ fun j : Fin 15 => Φ j.succ) := by
  rw [Fin.univ_succ, Finset.cons_eq_insert, bigSep_insert (by simp), bigSep_map]; rfl

theorem two (Φ : Fin 2 → sProp 𝕄) : bigSep Finset.univ Φ = iprop(Φ 0 ∗ Φ 1) := bigSep_fin_two Φ

theorem half_pad (j : Fin 15) (f) : halfPts (F := F) c (src b c j.succ) b fullShare f ⊢ pad (peer (1 - b) c) b j := by
  unfold pad
  rw [src_opp, peer_opp]
  iintro H
  iexists f
  iexact H

/-- The halves other than the device's own are what its neighbours will fill. -/
theorem halves_pay (f) : bigSep Finset.univ (fun j : Fin 15 => halfPts (F := F) c (src b c j.succ) b fullShare f) ⊢ barPay (peer (1 - b) c) b := by
  unfold barPay
  exact bigSep_mono fun j _ => half_pad c b j f

/-- A device's own rows of its gather buffer, holding `f`. -/
def rowsPts (f : (main_v1_1 : Ref sig .tc).ty.Contents (Elt F)) : sProp 𝕄 :=
  (rowsOf ⟨![c.val, 0, 0], rows_inb c⟩).view.loc (c : Thread nD τ) ↦[(rowsOf ⟨![c.val, 0, 0], rows_inb c⟩).view.set]{fullShare} f

theorem rows_split (f) : rowsPts (F := F) c f ⊣⊢ iprop(halfPts c c 0 fullShare f ∗ halfPts c c 1 fullShare f) := by
  unfold halfPts rowsPts
  rw [rows_halves]
  exact pointsTo_union (half_disjoint (by simp))

/-- The gather buffer at launch: the device's own rows, and what it hands to each neighbour. -/
theorem comm_split (f : Buf (Elt F) ((c : Thread nD τ).loc main_v1_1)) :
    ((c : Thread nD τ).loc main_v1_1 ↦{fullShare} f : sProp 𝕄)
      ⊢ iprop(rowsPts c f ∗ barPay (peer 1 c) 0 ∗ barPay (peer 0 c) 1) := by
  have e : ((c : Thread nD τ).loc main_v1_1 ↦{fullShare} f : sProp 𝕄)
      = bigSep Finset.univ fun b : Fin 2 => bigSep Finset.univ fun j : Fin 16 => halfPts c (src b c j) b fullShare f := by
    rw [← bigSep_univ_prod (fun x : Fin 2 × Fin 16 => halfPts (F := F) c (src x.1 c x.2) x.1 fullShare f)]
    unfold halfPts
    refine Eq.trans ?_ (pointsTo_biUnion (ℓ := (c : Thread nD τ).loc main_v1_1) (q := fullShare) (f := f) Finset.univ
      (fun x : Fin 2 × Fin 16 => halfSet (src x.1 c x.2) x.1) fun x _ y _ h => half_pairwise c x y h)
    rw [half_cover]
  rw [e, two, first_rest, first_rest, src_zero, src_zero]
  iintro ⟨⟨H0, R0⟩, H1, R1⟩
  isplitl [H0 H1]
  · iapply (rows_split c f).2
    isplitl [H0] <;> iassumption
  isplitl [R0]
  · iapply (halves_pay c 0 f) $$ R0
  · iapply (halves_pay c 1 f) $$ R1

theorem rows_written (f : (main_v1_1 : Ref sig .tc).ty.Contents (Elt F)) :
    rowsPts c ((rowsOf ⟨![c.val, 0, 0], rows_inb c⟩).view.write (Elt F) f (xOf m c) Finset.univ) = rowsPts c (gathered m) := by
  unfold rowsPts
  rw [← rows_read m c]
  exact pointsTo_congr fun i hi => write_read_of (rowsOf ⟨![c.val, 0, 0], rows_inb c⟩).view f (gathered m) i hi

/-- After the copy of its own rows the device's two halves are filled. -/
theorem own_filled (f : Buf (Elt F) ((c : Thread nD τ).loc main_v1_1)) :
    rowsPts c ((rowsOf ⟨![c.val, 0, 0], rows_inb c⟩).view.write (Elt F) f (xOf m c) Finset.univ)
      ⊢ iprop(halfPts c (src 0 c 0) 0 fullShare (gathered m) ∗ halfPts c (src 1 c 0) 1 fullShare (gathered m)) := by
  rw [src_zero, src_zero]
  rw [rows_written]
  exact (rows_split c (gathered m)).1

/-- One direction before hop 0, from what the neighbour handed over and the first send. -/
theorem dir_first :
    iprop(bigSep Finset.univ (toRecv (F := F) c b) ∗ sending c b 0 ∗ bigSep (finFrom 15 1) (fun j => iprop(toSend c b j ∗ pad c b j)))
      ⊢ dir c b 0 (by omega) := by
  unfold dir
  rw [bigSep_finFrom_zero, bigSep_finUpTo_zero]
  iintro ⟨H1, H2, H3⟩
  isplitl [H1]; · iexact H1
  isplitl [H2]; · iexact H2
  isplitl [H3]; · iexact H3
  iempintro

theorem sends_first :
    iprop(bigSep Finset.univ (toSend (F := F) c b) ∗ barPay c b)
      ⊢ iprop((toSend c b 0 ∗ pad c b 0) ∗ bigSep (finFrom 15 1) (fun j => iprop(toSend c b j ∗ pad c b j))) := by
  unfold barPay
  rw [← bigSep_sep', ← bigSep_finFrom_zero, bigSep_finFrom_succ (k := 0) (by omega)]
  exact Entails.refl _

set_option maxHeartbeats 1000000 in
/-- The body, from its start to its end. -/
theorem body_run {Q : PUnit.{1} → sProp 𝕄} :
    iprop(env m K ∗ atStart m c ∗ (iprop(atEnd m c ∗ semVal (barCell c) 0 ∗ semVal ((c : Thread nD τ), .dma xSem) 0
        ∗ xPts m c) -∗ Q ⟨⟩))
      ⊢ Runs c ring.body Q := by
  unfold atStart ow Runs Places.body
  dsimp only [ring]
  rw [wp_deviceId]
  iintro ⟨#He, ⟨⟨%W, HO⟩, ⟨HatB, HtB0, HtB1, HcB⟩, ⟨R0, S0⟩, ⟨R1, S1⟩, Hx, Ha, ⟨%f, Hc⟩, Hw⟩, Hk⟩
  ihave ⟨#HI, -⟩ := (env_bar m K c) $$ He
  ihave ⟨#HI0, #HR0⟩ := (env_bar m K (peer 0 c)) $$ He
  ihave ⟨#HI1, #HR1⟩ := (env_bar m K (peer 1 c)) $$ He
  ihave #Hl := (env_lev m K) $$ He
  ihave ⟨Hown, Hp0, Hp1⟩ := (comm_split c f) $$ Hc
  unfold O₀
  iapply (Rounds.wp_signal 𝒱₀ ER (ringRd m) (c : Thread nD τ) none (dst := (peer 1 c : Thread nD τ)) (κ := K (peer 1 c, none))
      (d := 0) (by rw [duties_bar]; exact Finset.mem_univ _) (by show (1 : ℕ) = _; decide) () (O₁ c) rfl) $$ [HO HtB0 Hp0]
  · isplitr; · iexact HI1
    isplitl [HO]; · iexact HO
    isplitl [HtB0]; · iexact HtB0
    isplitl [Hp0]; · rw [payload_bar]; iexact Hp0
    iexact HR1
  iintro HO
  unfold O₁
  iapply (Rounds.wp_signal 𝒱₀ ER (ringRd m) (c : Thread nD τ) none (dst := (peer 0 c : Thread nD τ)) (κ := K (peer 0 c, none))
      (d := 1) (by rw [duties_bar]; exact Finset.mem_univ _) (by show (1 : ℕ) = _; decide) () (steps c 15) rfl) $$ [HO HtB1 Hp1]
  · isplitr; · iexact HI0
    isplitl [HO]; · iexact HO
    isplitl [HtB1]; · iexact HtB1
    isplitl [Hp1]; · rw [payload_bar]; iexact Hp1
    iexact HR0
  iintro HO
  iapply (Rounds.wp_wait_rest_token 𝒱₀ ER (ringRd m) (c : Thread nD τ) none (κ := K (c, none))
      (wpE_semWait_eq 𝒱₀ (c : Thread nD τ) none Set.univ) (Set.mem_univ _) () (O := steps c 15) (W := W) (R := 0) (m := 0) (T := ∅)
      (by rw [expect_bar]; decide)) $$ [HcB HO HatB]
  · isplitr; · iexact HI
    isplitl [HcB]; · iexact HcB
    isplitl [HO]; · iexact HO
    isplitr; · iapply (mayWait_steps c (.reg barrier0) 15 (by omega) (by show 1 < 2; omega)); iexact Hl
    iexact HatB
  iintro ⟨HO, HatB, -, Hp⟩
  ihave ⟨Hp0, Hp1⟩ := (Entails.of_eq (rest_bar m c)) $$ Hp
  imod (Rounds.cell_close ER (ringRd m) (Set.mem_univ (K (c, none))) (fun h => h) (R := 0 + 1) (duties_later m (barCell c))) $$ [HatB] with HzB
  · isplitr; · iexact HI
    iexact HatB
  iapply (Transfers.wp_dmaLocal countersEmb 𝒱₀ (c : Thread nD τ) none () _ rfl (View.dmaCredit_pos _ (by decide))
      (src := xin) (dst := rowsOf ⟨![c.val, 0, 0], rows_inb c⟩) (Finset.Subset.refl _)) $$ [Ha Hown Hx]
  · isplitl [Ha]; · unfold xPts; iexact Ha
    isplitl [Hown]; · unfold rowsPts; iexact Hown
    iexact Hx
  iintro Hf
  iapply (Transfers.wp_waitLocalO countersEmb 𝒱₀ (c : Thread nD τ) none () (srcw := xin) (dstw := rowsOf ⟨![c.val, 0, 0], rows_inb c⟩)
      (hsrc := (Memref.isWhole_whole _).wordExact) (hdst := (View.wordExact_bits rfl).reshape _ _) rfl (O := steps c 15) (W := insert (SemLoc.reg barrier0, ()) W)) $$ [Hf HO]
  · isplitl [Hf]; · iexact Hf
    isplitl [HO]; · iexact HO
    iapply (mayWait_low c xSem (by decide) 15 (by omega)); iexact Hl
  iintro ⟨⟨Hown, Ha⟩, Hx, HO⟩
  ihave ⟨H0, H1⟩ := (own_filled m c f) $$ [Hown]
  · unfold rowsPts; iexact Hown
  ihave ⟨⟨T0, P0⟩, X0⟩ := (sends_first c 0) $$ [S0 Hp0]
  · isplitl [S0] <;> iassumption
  ihave ⟨⟨T1, P1⟩, X1⟩ := (sends_first c 1) $$ [S1 Hp1]
  · isplitl [S1] <;> iassumption
  ihave ⟨H0, G0⟩ := (half_twice c 0 _ _) $$ H0
  ihave ⟨H1, G1⟩ := (half_twice c 1 _ _) $$ H1
  unfold toSend
  icases T0 with ⟨A0, T0, U0⟩
  icases T1 with ⟨A1, T1, U1⟩
  rw [steps_succ c 14 0 rfl]
  iapply (wp_send m K c 0 0 fullShare.left _) $$ [HO H0 P0 T0 U0]
  · isplitr; · iexact He
    isplitl [HO]; · unfold ow; iexists _; iexact HO
    isplitl [H0]; · iexact H0
    isplitl [P0]; · iexact P0
    isplitl [T0] <;> iassumption
  iintro ⟨HO, C0⟩
  iapply (wp_send m K c 1 0 fullShare.left _) $$ [HO H1 P1 T1 U1]
  · isplitr; · iexact He
    isplitl [HO]; · iexact HO
    isplitl [H1]; · iexact H1
    isplitl [P1]; · iexact P1
    isplitl [T1] <;> iassumption
  iintro ⟨HO, C1⟩
  iapply (wp_comp m K c 0 0 14 (by omega) fullShare.right (fun _ _ => False) (fun b i => b = 0 ∧ i = 0)
      (fun b' j' hP => .inr hP)) $$ [HO G0 Hw]
  · isplitr; · iexact He
    isplitl [HO]; · iexact HO
    isplitl [G0]; · iexact G0
    iexact Hw
  iintro ⟨HO, Hw⟩
  iapply (wp_comp m K c 1 0 14 (by omega) fullShare.right (fun b i => b = 0 ∧ i = 0) (upTo 0)
      (fun b' j' hP => by
        have hj : j' = 0 := Fin.ext (Nat.le_zero.mp hP)
        rcases (by decide : ∀ b : Fin 2, b = 0 ∨ b = 1) b' with rfl | rfl
        · exact .inl ⟨rfl, hj⟩
        · exact .inr ⟨rfl, hj⟩)) $$ [HO G1 Hw]
  · isplitr; · iexact He
    isplitl [HO]; · iexact HO
    isplitl [G1]; · iexact G1
    iexact Hw
  iintro ⟨HO, Hw⟩
  iapply (hops_run m K c 14 0 rfl)
  isplitr; · iexact He
  isplitl [HO Hw A0 C0 R0 X0 A1 C1 R1 X1]
  · unfold before
    isplitl [HO]; · iexact HO
    isplitl [A0 C0 R0 X0]
    · iapply (dir_first c 0)
      unfold sending
      isplitl [R0]; · iexact R0
      isplitl [A0 C0]; · isplitl [A0] <;> iassumption
      iexact X0
    isplitl [A1 C1 R1 X1]
    · iapply (dir_first c 1)
      unfold sending
      isplitl [R1]; · iexact R1
      isplitl [A1 C1]; · isplitl [A1] <;> iassumption
      iexact X1
    iexact Hw
  iintro H
  iapply Hk
  isplitl [H]; · iexact H
  isplitl [HzB]; · iexact HzB
  isplitl [Hx]; · iexact Hx
  unfold xPts; iexact Ha

end Cert.KernelIdeal.Ring

end
-- ==== Proof.Ring.Deal.lean ====
/-
  How the ring's ghost state comes about at launch: the cells and their tokens, the tokens carried to the devices that
  pay them, the invariants, and what every arrival is owed in total.
-/
module

public import proofs.«01_k».proof.Proof.Ring.Body
public import Idealize.ShloMosaic.Lib.Pipeline.Launch
public import Idealize.ShloMosaic.Lib.Pipeline.Kit
public import Idealize.ShloMosaic.Lib.Pipeline.CollectiveSegs

@[expose] public section

set_option maxRecDepth 8000

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (c : Dev nD)

/-! ### Conjunctions over the ring's cells -/

/-- A DMA cell of the ring on a device: whether it counts arrivals, the direction, the step. -/
abbrev XI : Type := Bool × Fin 2 × Fin 15

theorem option_sep {I : Type} [Fintype I] [DecidableEq I] (Φ : Option I → sProp 𝕄) :
    bigSep Finset.univ Φ = iprop(Φ none ∗ bigSep Finset.univ fun x => Φ (some x)) := by
  rw [bigSep_univ_at Φ none, show (Finset.univ : Finset (Option I)).erase none = Finset.univ.map Function.Embedding.some from by
    ext x; cases x <;> simp, BI.bigSep_map]
  rfl

theorem ring_sep (Φ : XI → sProp 𝕄) :
    bigSep Finset.univ Φ = iprop((bigSep Finset.univ (fun j => Φ (false, 0, j)) ∗ bigSep Finset.univ (fun j => Φ (false, 1, j)))
      ∗ (bigSep Finset.univ (fun j => Φ (true, 0, j)) ∗ bigSep Finset.univ (fun j => Φ (true, 1, j)))) := by
  rw [BI.bigSep_univ_prod, bigSep_univ_eq_bigSepL [false, true] (by decide) (by decide)]
  show iprop(bigSep Finset.univ (fun y : Fin 2 × Fin 15 => Φ (false, y)) ∗ bigSep Finset.univ (fun y : Fin 2 × Fin 15 => Φ (true, y))) = _
  rw [BI.bigSep_univ_prod, BI.bigSep_univ_prod, bigSep_fin_two, bigSep_fin_two]
  rfl

/-! ### Semaphores, cells and tokens -/

/-- The kernel's own semaphores: the input copy's, the staging slots', the ring's. -/
abbrev OI : Type := Option (Fin 4 ⊕ XI)
def osem : OI → SemLoc sig
  | none => .dma xSem
  | some (.inl n) => .dma (slotSem n)
  | some (.inr x) => .dma (ringSem x)

theorem ringSem_inj : Function.Injective ringSem := by decide +kernel

theorem ownSemFacts : Pipeline.OwnSemFacts cfg0.spec osem := by decide +kernel

theorem kcell_inj : Function.Injective kcell := by
  rintro ⟨c, x⟩ ⟨c', x'⟩ h
  have hc : c = c' := by
    have e := congrArg (fun g : GSem nD τ sig => g.1.1) h
    rcases x with _ | x <;> rcases x' with _ | x' <;> exact e
  subst hc
  have e := congrArg Prod.snd h
  rcases x with _ | x <;> rcases x' with _ | x'
  · rfl
  · cases e
  · cases e
  · rw [ringSem_inj (SemLoc.dma.inj e)]

def ringCells : Finset (GSem nD τ sig) := Finset.univ.map ⟨kcell, kcell_inj⟩

/-- A device's duties: the two of its barrier cell, one of each DMA cell. -/
abbrev TI : Type := Fin 2 ⊕ XI
def tokOf : Dev nD × TI → GSem nD τ sig × ℕ × Fin 2
  | (c, .inl d) => (barCell c, 0, d)
  | (c, .inr x) => (kcell (c, some x), 0, 0)
theorem tokOf_inj : Function.Injective tokOf := by
  rintro ⟨c, x | x⟩ ⟨c', x' | x'⟩ h
  · have h1 := kcell_inj (a₁ := (c, none)) (a₂ := (c', none)) (congrArg Prod.fst h)
    have h2 : x = x' := congrArg (fun y => y.2.2) h
    rw [(Prod.mk.inj h1).1, h2]
  · exact absurd (kcell_inj (a₁ := (c, none)) (a₂ := (c', some x')) (congrArg Prod.fst h)) (fun e => by cases e)
  · exact absurd (kcell_inj (a₁ := (c, some x)) (a₂ := (c', none)) (congrArg Prod.fst h)) (fun e => by cases e)
  · have h1 := kcell_inj (a₁ := (c, some x)) (a₂ := (c', some x')) (congrArg Prod.fst h)
    rw [(Prod.mk.inj h1).1, Option.some.inj (Prod.mk.inj h1).2]
def ringToks : Finset (GSem nD τ sig × ℕ × Fin 2) := Finset.univ.map ⟨tokOf, tokOf_inj⟩

/-- The ghost state the launch starts from. -/
def u₀ : UU := (initOf (Pipeline.cells cfgs cellOf_inj) (Pipeline.launchToks cfgs cellOf_inj), (initOf ringCells ringToks, 1))

theorem u₀_split : (ownU u₀ : sProp 𝕄) ⊢ iprop(BI.own (EP (initOf (Pipeline.cells cfgs cellOf_inj) (Pipeline.launchToks cfgs cellOf_inj)))
    ∗ BI.own (ER (initOf ringCells ringToks))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (initOf ringCells ringToks, (1 : Counters)))))

/-! ### The tokens, minted by cell and carried to who pays -/

/-- The duty tokens of device `c`'s own cells. -/
def minted : sProp 𝕄 :=
  iprop((dutyTok ER (barCell c) 0 0 ∗ dutyTok ER (barCell c) 0 1) ∗ bigSep Finset.univ fun x : XI => dutyTok ER (kcell (c, some x)) 0 0)

/-- Going round in direction `b`. -/
def turn (b : Fin 2) : Dev nD ≃ Dev nD where
  toFun := peer b
  invFun := peer (1 - b)
  left_inv := opp_peer b
  right_inv := peer_opp b

/-- Whose cell `x` a device pays: its own for a departure, the neighbour's for an arrival. -/
def payee : XI → (Dev nD ≃ Dev nD)
  | (false, _, _) => Equiv.refl _
  | (true, b, _) => turn b

/-- The tokens device `c` pays with. -/
def paid : sProp 𝕄 :=
  iprop((dutyTok ER (barCell (peer 1 c)) 0 0 ∗ dutyTok ER (barCell (peer 0 c)) 0 1)
    ∗ bigSep Finset.univ fun x : XI => dutyTok ER (kcell (payee x c, some x)) 0 0)

theorem carried : (bigSep Finset.univ fun c : Dev nD => (minted c : sProp 𝕄)) = bigSep Finset.univ fun c : Dev nD => paid c := by
  unfold minted paid
  rw [bigSep_sep', bigSep_sep', bigSep_sep', bigSep_sep']
  congr 1
  · congr 1
    · exact BI.bigSep_univ_equiv (turn 1) (fun c : Dev nD => (dutyTok ER (barCell c) 0 0 : sProp 𝕄))
    · exact BI.bigSep_univ_equiv (turn 0) (fun c : Dev nD => (dutyTok ER (barCell c) 0 1 : sProp 𝕄))
  · rw [← BI.bigSep_univ_prod (fun p : Dev nD × XI => (dutyTok ER (kcell (p.1, some p.2)) 0 0 : sProp 𝕄)),
      ← BI.bigSep_univ_prod (fun p : Dev nD × XI => (dutyTok ER (kcell (payee p.2 p.1, some p.2)) 0 0 : sProp 𝕄))]
    exact BI.bigSep_univ_equiv (⟨fun p => (payee p.2 p.1, p.2), fun p => ((payee p.2).symm p.1, p.2),
        fun p => Prod.ext ((payee p.2).symm_apply_apply p.1) rfl, fun p => Prod.ext ((payee p.2).apply_symm_apply p.1) rfl⟩ : Dev nD × XI ≃ Dev nD × XI)
      (fun p : Dev nD × XI => (dutyTok ER (kcell (p.1, some p.2)) 0 0 : sProp 𝕄))

/-! ### The cells' invariants -/

/-- What the launch gives device `c`. -/
def dealt : sProp 𝕄 :=
  iprop((bigSep Finset.univ fun k : CI => roundState ER (ringRd m) (kcell (c, k)) 0)
    ∗ (bigSep Finset.univ fun k : CI => iprop(atPos ER (kcell (c, k)) 0 ∅ 0 ∗ reached ER (kcell (c, k)) 0)) ∗ minted c)

/-- What the launch's ghost state comes to, device by device. -/
theorem deal : BI.own (ER (initOf ringCells ringToks)) ⊢ (|==> bigSep Finset.univ (dealt m) : sProp 𝕄) := by
  have hX (Φ : GSem nD τ sig → sProp 𝕄) : bigSep ringCells Φ = bigSep Finset.univ fun c : Dev nD => bigSep Finset.univ fun k : CI => Φ (kcell (c, k)) := by
    unfold ringCells; rw [BI.bigSep_map, BI.bigSep_univ_prod]; rfl
  have hT : bigSep ringToks (fun x => (dutyTok ER x.1 x.2.1 x.2.2 : sProp 𝕄)) = bigSep Finset.univ fun c : Dev nD => minted c := by
    unfold ringToks; rw [BI.bigSep_map, BI.bigSep_univ_prod]
    refine bigSep_congr fun c _ => ?_
    unfold minted
    refine (BI.bigSep_univ_sum _).trans ?_
    rw [bigSep_fin_two]; rfl
  iintro H
  imod (Rounds.fund ER (ringRd m) ringCells ringToks) $$ H with ⟨H1, H2, H3, H4⟩
  imodintro
  ihave H1 := (Entails.of_eq (hX fun g => roundState ER (ringRd m) g 0)) $$ H1
  ihave H3 := (Entails.of_eq (hX fun g => atPos ER g 0 ∅ 0)) $$ H3
  ihave H2 := (Entails.of_eq (hX fun g => reached ER g 0)) $$ H2
  ihave H4 := (Entails.of_eq hT) $$ H4
  unfold dealt; simp only [bigSep_sep']
  isplitl [H1]; · iexact H1
  isplitl [H2 H3]
  · isplitl [H3] <;> iassumption
  iexact H4

/-- The kernel's own semaphores at zero, one kind after the other; -/
theorem own_zero : (Pipeline.ownSems0 (Ix := Unit) (Name := ℕ) (U := UU) (Lvl := ℕ) (Val := Elt F) (τ := τ) osem c : sProp 𝕄)
    = iprop(semVal ((c : Thread nD τ), .dma xSem) 0 ∗ (bigSep Finset.univ fun n : Fin 4 => semVal ((c : Thread nD τ), .dma (slotSem n)) 0)
      ∗ bigSep Finset.univ fun x : XI => semVal (kcell (c, some x)) 0) := by
  unfold Pipeline.ownSems0
  rw [option_sep]
  refine congrArg _ ((BI.bigSep_univ_sum _).trans rfl)

/-- the barrier semaphore is the one that outlives the kernel. -/
theorem bar_zero : (unscopedSems0 c : sProp 𝕄) = semVal (barCell c) 0 := by
  unfold unscopedSems0; rw [bigSep_eq_bigSepL_of_eq [SemLoc.reg barrier0] (by decide) (by decide)]; rfl

/-- The semaphores that are no cells of the ring. -/
def loose : sProp 𝕄 :=
  iprop(semVal ((c : Thread nD τ), .dma xSem) 0 ∗ bigSep Finset.univ fun n : Fin 4 => semVal ((c : Thread nD τ), .dma (slotSem n)) 0)

theorem opened :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ minted c ∗ loose c) := by
  unfold dealt loose
  rw [own_zero, bar_zero]
  iintro ⟨⟨Hx, Hs, Hr⟩, Hb, Hst, Hat, Htok⟩
  ihave Hv := (Entails.of_eq (option_sep (F := F) (fun k : CI => semVal (kcell (c, k)) 0)).symm) $$ [Hb Hr]
  · isplitl [Hb]; · iexact Hb
    iexact Hr
  imod (show iprop((bigSep Finset.univ fun k : CI => semVal (kcell (c, k)) 0) ∗ bigSep Finset.univ fun k : CI => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with H
  · isplitl [Hv] <;> iassumption
  imodintro
  isplitl [H]; · iexact H
  isplitl [Hat]; · iexact Hat
  isplitl [Htok]; · iexact Htok
  isplitl [Hx] <;> iassumption

/-- What only device `c` has of it: its places, the tokens it pays with, its other semaphores. -/
def alone : sProp 𝕄 := iprop((bigSep Finset.univ fun k : CI => atPos ER (kcell (c, k)) 0 ∅ 0) ∗ paid c ∗ loose c)

/-- What all devices have: the invariants and that every cell is at its round 0. -/
def common (K : Dev nD × CI → ℕ) : sProp 𝕄 :=
  iprop((bigSep Finset.univ fun x => cellInv ER (ringRd m) (K x) (kcell x)) ∗ bigSep Finset.univ fun x => reached ER (kcell x) 0)
instance common_persistent (K : Dev nD × CI → ℕ) : BI.Persistent (common m K) := by unfold common; infer_instance

def given : sProp 𝕄 := iprop((∃ K, common m K) ∗ alone c)

/-- Something all can use goes to each. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem gathered_up :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ minted c ∗ loose c) : sProp 𝕄)
      ⊢ bigSep Finset.univ (given m) := by
  rw [bigSep_sep', bigSep_sep', bigSep_sep', ← BI.bigSep_univ_prod (fun x : Dev nD × CI => iprop(∃ κ : ℕ, cellInv ER (ringRd m) κ (kcell x))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← BI.bigSep_univ_prod (fun x : Dev nD × CI => (reached ER (kcell x) 0 : sProp 𝕄)), carried]
  iintro ⟨HI, ⟨Hat, #HR⟩, Htok, Hl⟩
  ihave HK := (BI.bigSep_exists_pi Finset.univ (fun (x : Dev nD × CI) (κ : ℕ) => (cellInv ER (ringRd m) κ (kcell x) : sProp 𝕄))) $$ HI
  icases HK with ⟨%K, #HI⟩
  iapply (share_out (R := common m K) (Φ := alone) fun c _ => by
    unfold given
    iintro ⟨HC, HA⟩
    isplitl [HC]
    · iexists K; iexact HC
    · iexact HA)
  isplitr
  · unfold common; isplitl; · iexact HI
    iexact HR
  · unfold alone
    rw [bigSep_sep', bigSep_sep']
    isplitl [Hat]; · iexact Hat
    isplitl [Htok] <;> iassumption

/-- From every device's semaphores and share of the launch to what each body starts from. -/
theorem all_given : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (given m) :=
  ((bigSep_mono fun c _ => opened m c).trans (bigSep_fupd _ _)).trans (BI.fupd_mono (gathered_up m))

/-! ### What each cell is owed in total -/

theorem bar_eq {a b : Dev nD} (h : barCell a = barCell b) : a = b :=
  (Prod.mk.inj (kcell_inj (a₁ := (a, none)) (a₂ := (b, none)) h)).1
theorem recv_eq {a c : Dev nD} {b b' : Fin 2} {j j' : Fin 15} (h : recvCell a b j = recvCell c b' j') : a = c ∧ b = b' ∧ j = j' := by
  have e := kcell_inj (a₁ := (a, some (true, b, j))) (a₂ := (c, some (true, b', j'))) h
  have e' := Option.some.inj (Prod.mk.inj e).2
  exact ⟨(Prod.mk.inj e).1, congrArg (fun x : XI => x.2.1) e', congrArg (fun x : XI => x.2.2) e'⟩

theorem tally_recv (a c : Dev nD) (b b' : Fin 2) (j j' : Fin 15) :
    (tallyAt (recvCell a b' j') () N : CellTallies nD τ sig Unit) (recvCell c b j) () = if a = c ∧ b' = b ∧ j' = j then N else 0 := by
  rw [tallyAt_apply]
  refine if_congr ⟨fun h => ?_, fun ⟨h1, h2, h3⟩ => ?_⟩ rfl rfl
  · obtain ⟨h1, h2, h3⟩ := recv_eq h.1; exact ⟨h1.symm, h2.symm, h3.symm⟩
  · rw [h1, h2, h3]; exact ⟨rfl, rfl⟩

theorem steps_recv (d c : Dev nD) (b : Fin 2) (j : Fin 15) : ∀ n ≤ 15, steps d n (recvCell c b j) () = if peer b d = c ∧ 15 ≤ n + j.val then N else 0
  | 0, _ => by rw [if_neg (fun h => by omega)]; rfl
  | n + 1, hn => by
    have hj : ∀ h : 14 - n < 15, (⟨14 - n, h⟩ : Fin 15) = j ↔ 14 = n + j.val := fun h =>
      ⟨fun e => by have := congrArg Fin.val e; simp only at this; omega, fun e => Fin.ext (by simp only; omega)⟩
    rw [steps, Pi.add_apply, Finsupp.add_apply, Pi.add_apply, Finsupp.add_apply, steps_recv d c b j n (by omega), tally_recv, tally_recv]
    simp only [hj]
    rcases (by revert b; decide : ∀ b : Fin 2, b = 0 ∨ b = 1) b with rfl | rfl
    · simp only [show ¬ ((1 : Fin 2) = 0) from by decide, false_and, and_false, if_false, true_and, Nat.add_zero]
      by_cases hp : peer 0 d = c
      · simp only [hp, true_and]; split_ifs <;> omega
      · simp only [hp, false_and, if_false]
    · simp only [show ¬ ((0 : Fin 2) = 1) from by decide, false_and, and_false, if_false, true_and, Nat.add_zero]
      by_cases hp : peer 1 d = c
      · simp only [hp, true_and]; split_ifs <;> omega
      · simp only [hp, false_and, if_false]

theorem steps_bar (d c : Dev nD) : ∀ n ≤ 15, steps d n (barCell c) () = 0 := fun n hn => by
  by_contra h
  obtain ⟨b, j, e, -⟩ := steps_pos hn (Nat.pos_of_ne_zero h)
  cases (Prod.mk.inj e).2

theorem tally_bar (a c : Dev nD) : (tallyAt (barCell a) () 1 : CellTallies nD τ sig Unit) (barCell c) () = if a = c then 1 else 0 := by
  rw [tallyAt_apply]
  exact if_congr ⟨fun h => (bar_eq h.1).symm, fun h => by rw [h]; exact ⟨rfl, rfl⟩⟩ rfl rfl

theorem peer_iff (b : Fin 2) (d c : Dev nD) : peer b d = c ↔ d = peer (1 - b) c :=
  ⟨fun h => by rw [← h, opp_peer], fun h => by rw [h, peer_opp]⟩

/-- A barrier cell is owed two units, -/
theorem credit_bar : tallyOn (barCell c) (launchCredit (Pipeline.owing O₀) 0 (barCell c)) = (tallyAt (barCell c) () 2 : CellTallies nD τ sig Unit) := by
  have h : ∀ d : Dev nD, O₀ d (barCell c) () = (if d = peer (1 - 0) c then 1 else 0) + (if d = peer (1 - 1) c then 1 else 0) := fun d => by
    unfold O₀ O₁
    rw [Pi.add_apply, Finsupp.add_apply, Pi.add_apply, Finsupp.add_apply, steps_bar d c 15 le_rfl, Nat.zero_add, tally_bar, tally_bar]
    simp only [peer_iff]
  unfold tallyAt; refine congrArg _ (Finsupp.ext fun u => ?_); cases u
  rw [Pipeline.launchCredit_owing, Finsupp.single_eq_same, Finset.sum_congr rfl fun d _ => h d, Finset.sum_add_distrib,
    Finset.sum_ite_eq' Finset.univ _ fun _ => 1, Finset.sum_ite_eq' Finset.univ _ fun _ => 1, if_pos (Finset.mem_univ _), if_pos (Finset.mem_univ _)]

/-- an arrival one transfer. -/
theorem credit_recv (b : Fin 2) (j : Fin 15) :
    tallyOn (recvCell c b j) (launchCredit (Pipeline.owing O₀) 0 (recvCell c b j)) = (tallyAt (recvCell c b j) () N : CellTallies nD τ sig Unit) := by
  have hb : ∀ a : Dev nD, (tallyAt (barCell a) () 1 : CellTallies nD τ sig Unit) (recvCell c b j) () = 0 := fun a => by
    rw [tallyAt_apply, if_neg fun h => by cases (Prod.mk.inj h.1).2]
  have h : ∀ d : Dev nD, O₀ d (recvCell c b j) () = if d = peer (1 - b) c then N else 0 := fun d => by
    unfold O₀ O₁
    rw [Pi.add_apply, Finsupp.add_apply, Pi.add_apply, Finsupp.add_apply, steps_recv d c b j 15 le_rfl, hb, hb]
    show (if _ then N else 0) = _
    refine if_congr ?_ rfl rfl
    rw [peer_iff]
    exact ⟨fun h => h.1, fun h => ⟨h, by omega⟩⟩
  unfold tallyAt; refine congrArg _ (Finsupp.ext fun u => ?_); cases u
  rw [Pipeline.launchCredit_owing, Finsupp.single_eq_same, Finset.sum_congr rfl fun d _ => h d,
    Finset.sum_ite_eq' Finset.univ _ fun _ => N, if_pos (Finset.mem_univ _)]

def arrival : Fin 2 × Fin 15 ↪ SemLoc sig := ⟨fun x => .dma (recvSem x.1 x.2), fun x y h => by
  have e := ringSem_inj (a₁ := (true, x.1, x.2)) (a₂ := (true, y.1, y.2)) (SemLoc.dma.inj h)
  exact congrArg Prod.snd e⟩

/-- What device `c` may wait for: its barrier cell's two units and every arrival. -/
def awaited : sProp 𝕄 :=
  iprop(cred (tallyAt (barCell c) () 2) ∗ bigSep Finset.univ (fun j : Fin 15 => cred (tallyAt (recvCell c 0 j) () N))
    ∗ bigSep Finset.univ (fun j : Fin 15 => cred (tallyAt (recvCell c 1 j) () N)))

theorem credits : (Pipeline.launchCred O₀ c : sProp 𝕄) ⊢ awaited c := by
  have hs : Finset.univ.map arrival ⊆ (Finset.univ : Finset (SemLoc sig)).erase (SemLoc.reg barrier0) := fun s hs => by
    obtain ⟨x, -, rfl⟩ := Finset.mem_map.mp hs
    exact Finset.mem_erase.mpr ⟨(nofun), Finset.mem_univ _⟩
  have he : bigSep (Finset.univ.map arrival) (fun sm => (cred (tallyOn ((c : Thread nD τ), sm) (launchCredit (Pipeline.owing O₀) 0 ((c : Thread nD τ), sm))) : sProp 𝕄))
      = iprop(bigSep Finset.univ (fun j : Fin 15 => cred (tallyAt (recvCell c 0 j) () N)) ∗ bigSep Finset.univ (fun j : Fin 15 => cred (tallyAt (recvCell c 1 j) () N))) := by
    rw [BI.bigSep_map, BI.bigSep_univ_prod, bigSep_fin_two]
    exact congrArg₂ _ (bigSep_congr fun j _ => congrArg _ (credit_recv c 0 j)) (bigSep_congr fun j _ => congrArg _ (credit_recv c 1 j))
  unfold Pipeline.launchCred awaited
  rw [bigSep_univ_at _ (SemLoc.reg barrier0), credit_bar, BI.bigSep_sdiff_split hs, he]
  show iprop(_ ∗ (_ ∗ _)) ⊢ _
  iintro ⟨H1, H2, -⟩
  isplitl [H1]; · iexact H1
  iexact H2

end Cert.KernelIdeal.Ring

end
-- ==== Proof.Ring.Run.lean ====
/-
  The run of the kernel on all sixteen devices: it ends, the arguments are what they were, every semaphore is back at
  zero, and each device's block of the result is `result`.
-/
module

public import proofs.«01_k».proof.Proof.Ring.Deal
public import proofs.«01_k».proof.Proof.Gen.KernelIdeal.Launch
public import Idealize.ShloMosaic.Lib.Pipeline.Value

@[expose] public section

set_option maxRecDepth 40000

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ### What the pipeline around the body is told -/

/-- What device `c` brings to the launch besides its buffers in fast memory. -/
def start : sProp 𝕄 :=
  iprop(given m c ∗ levAts L lv ∗ awaited c ∗ ((c : Thread nD τ).loc main_arg0 ↦{fullShare} m ((c : Thread nD τ).loc main_arg0))
    ∗ ∃ f, (c : Thread nD τ).loc main_v1_1 ↦{fullShare} f)

/-- Before the body. -/
def Φ₀ : sProp 𝕄 := iprop(start m c ∗ ∃ f, (c : Thread nD τ).loc cc0_scratch5 ↦{fullShare} f)

/-- What it takes away from it. -/
def taken : sProp 𝕄 := iprop(unscopedSems0 c ∗ ((c : Thread nD τ).loc main_arg0 ↦{fullShare} m ((c : Thread nD τ).loc main_arg0)))

/-- After the body. -/
def Φ₁ : sProp 𝕄 :=
  iprop(taken m c ∗ (loose c ∗ bigSep Finset.univ fun x : XI => semVal (kcell (c, some x)) 0) ∗ ∃ f, (c : Thread nD τ).loc cc0_scratch5 ↦{fullShare} f)

def dats (_ : Fin 1) (c : Dev nD) : Dat τ (Elt F) Unit ℕ UU ℕ cfg0 c where
  A w := m ((cfg0.win w).arr.view.loc (c : Thread nD τ))
  after w _ := match w with
    | ⟨0, _⟩ => wOf m c
    | ⟨1, _⟩ => result m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (w : Fin cfg0.W) : (dats m 0 c).share w = fullShare := by unfold Dat.share; split <;> rfl

/-! ### The windows are whole buffers -/

/-- A window's block of the right operand, and of the result, is the whole array. -/
theorem read_w (t : Fin cfg0.N) (f : (main_arg1 : Ref sig .tc).ty.Contents (Elt F)) : ((cfg0.win 0).blk t).view.read (Elt F) f = f := by
  rcases fin_N0 t with rfl
  funext x
  rw [View.read_apply]
  refine congrArg f (funext fun a => Fin.ext ?_)
  show 0 * _ + 1 * (x a).val = _
  omega

theorem read_out (t : Fin cfg0.N) (f : (main_v1_0 : Ref sig .tc).ty.Contents (Elt F)) : ((cfg0.win 1).blk t).view.read (Elt F) f = f := by
  rcases fin_N0 t with rfl
  funext x
  rw [View.read_apply]
  refine congrArg f (funext fun a => Fin.ext ?_)
  show 0 * _ + 1 * (x a).val = _
  omega

theorem mem_flush (t : Fin cfg0.N) (i : (main_v1_0 : Ref sig .tc).ty.Idx) : i ∈ ((cfg0.win 1).blk t).view.set := by
  rcases fin_N0 t with rfl
  have h := ((cfg0.win 1).blk t0_0).view.emb_mem_set i
  refine (congrArg (· ∈ ((cfg0.win 1).blk t0_0).view.set) (funext fun a => Fin.ext ?_)).mp h
  show 0 * _ + 1 * (i a).val = _
  omega

theorem fetched_w (t : Fin cfg0.N) (d) : (dats m 0 c).before (0 : Fin 2) t d = wOf m c := by
  rw [(dats m 0 c).before_fetched 0 t (fetch0_0 t)]
  exact read_w t (wOf m c)

theorem whole_owns (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ### The body between the two -/

theorem recv_all (b : Fin 2) : bigSep Finset.univ (toRecv (F := F) c b)
    = iprop(bigSep Finset.univ (fun j => atPos ER (recvCell c b j) 0 ∅ 0) ∗ bigSep Finset.univ (fun j => cred (tallyAt (recvCell c b j) () N))) :=
  bigSep_sep' _ _ _
theorem send_all (b : Fin 2) : bigSep Finset.univ (toSend (F := F) c b)
    = iprop(bigSep Finset.univ (fun j => atPos ER (sendCell c b j) 0 ∅ 0) ∗ bigSep Finset.univ (fun j => dutyTok ER (sendCell c b j) 0 0)
      ∗ bigSep Finset.univ (fun j => dutyTok ER (recvCell (peer b c) b j) 0 0)) :=
  (bigSep_sep' _ _ _).trans (congrArg _ (bigSep_sep' _ _ _))
theorem over_all (b : Fin 2) : bigSep Finset.univ (over (F := F) c b)
    = iprop(bigSep Finset.univ (fun j => semVal (sendCell c b j) 0) ∗ bigSep Finset.univ (fun j => semVal (recvCell c b j) 0)) :=
  bigSep_sep' _ _ _

/-- A device's share of the launch is what its body starts from. -/
theorem body_start :
    iprop(ow c (O₀ c) ∗ alone c ∗ awaited c ∗ ((c : Thread nD τ).loc main_arg0 ↦{fullShare} m ((c : Thread nD τ).loc main_arg0))
        ∗ (∃ f, (c : Thread nD τ).loc main_v1_1 ↦{fullShare} f) ∗ (∃ f, (c : Thread nD τ).loc cc0_scratch5 ↦{fullShare} f)
        ∗ ((c : Thread nD τ).loc cc0_stg0_0 ↦{fullShare} wOf m c) ∗ ∃ f, (c : Thread nD τ).loc cc0_stg1_0 ↦{fullShare} f)
      ⊢ atStart m c := by
  unfold alone awaited paid loose atStart work
  rw [option_sep, ring_sep (fun x : XI => atPos ER (kcell (c, some x)) 0 ∅ 0), ring_sep (fun x : XI => dutyTok ER (kcell (payee x c, some x)) 0 0),
    recv_all, recv_all, send_all, send_all, xPts_whole]
  iintro ⟨Ho, ⟨⟨Hb, ⟨P00, P01⟩, ⟨P10, P11⟩⟩, ⟨⟨B0, B1⟩, ⟨T00, T01⟩, ⟨T10, T11⟩⟩, Hx, Hs⟩, ⟨Hc, C0, C1⟩, Ha, Hg, Hstag, Hw, ⟨%f, Hout⟩⟩
  isplitl [Ho]; · iexact Ho
  isplitl [Hb B0 B1 Hc]
  · isplitl [Hb]; · iexact Hb
    isplitl [B0]; · iexact B0
    isplitl [B1]; · iexact B1
    iexact Hc
  isplitl [P00 P10 T00 T10 C0]
  · isplitl [P10 C0]
    · isplitl [P10]; · iexact P10
      iexact C0
    isplitl [P00]; · iexact P00
    isplitl [T00]; · iexact T00
    iexact T10
  isplitl [P01 P11 T01 T11 C1]
  · isplitl [P11 C1]
    · isplitl [P11]; · iexact P11
      iexact C1
    isplitl [P01]; · iexact P01
    isplitl [T01]; · iexact T01
    iexact T11
  isplitl [Hx]; · iexact Hx
  isplitl [Ha]; · iexact Ha
  isplitl [Hg]; · iexact Hg
  isplitl [Hstag]; · iexact Hstag
  isplitl [Hs]; · iexact Hs
  isplitl [Hw]; · iexact Hw
  iexists f
  isplitr
  · ipureintro; exact fun _ _ h => h.elim
  iexact Hout

/-- What the body leaves. -/
def left : sProp 𝕄 :=
  iprop(Φ₁ m c ∗ ow c 0 ∗ ((c : Thread nD τ).loc cc0_stg0_0 ↦{fullShare} wOf m c) ∗ ((c : Thread nD τ).loc cc0_stg1_0 ↦{fullShare} result m c))

theorem body_end : iprop(atEnd m c ∗ semVal (barCell c) 0 ∗ semVal ((c : Thread nD τ), .dma xSem) 0 ∗ xPts m c) ⊢ left m c := by
  unfold atEnd left Φ₁ taken loose work
  rw [bar_zero, ring_sep (fun x : XI => semVal (kcell (c, some x)) 0), over_all, over_all, xPts_whole]
  iintro ⟨⟨Ho, ⟨S0, R0⟩, ⟨S1, R1⟩, Hstag, Hs, Hw, ⟨%f, %hf, Hout⟩⟩, Hb, Hx, Ha⟩
  have e : f = result m c := funext fun i => by
    obtain ⟨b, j, hi⟩ := out_cover c i
    exact hf b j trivial i hi
  subst e
  isplitl [Hb Hx Ha S0 R0 S1 R1 Hstag Hs]
  · isplitl [Hb Ha]
    · isplitl [Hb]; · iexact Hb
      iexact Ha
    isplitl [Hx S0 R0 S1 R1 Hs]
    · isplitl [Hx Hs]
      · isplitl [Hx]; · iexact Hx
        iexact Hs
      isplitl [S0 S1]
      · isplitl [S0]; · iexact S0
        iexact S1
      isplitl [R0]; · iexact R0
      iexact R1
    iexact Hstag
  isplitl [Ho]; · iexact Ho
  isplitl [Hw]; · iexact Hw
  iexact Hout

/-- The body as the pipeline runs it, from what the launch gives to what the pipeline flushes. -/
theorem body_in_place {Q : PUnit.{1} → sProp 𝕄} :
    iprop(Φ₀ m c ∗ ow c (O₀ c) ∗ ((c : Thread nD τ).loc cc0_stg0_0 ↦{fullShare} wOf m c) ∗ (∃ f, (c : Thread nD τ).loc cc0_stg1_0 ↦{fullShare} f)
        ∗ (left m c -∗ Q ⟨⟩))
      ⊢ Runs c ring.body Q := by
  unfold Φ₀ start given common
  iintro ⟨⟨⟨⟨⟨%K, #HC1, #HC2⟩, HA⟩, #HL, Haw, Ha, Hg⟩, Hstag⟩, Ho, Hw, Hout, HQ⟩
  iapply (body_run m K c)
  isplitr
  · unfold env
    isplitr; · iexact HC1
    isplitr; · iexact HC2
    iexact HL
  isplitr [HQ]
  · iapply (body_start m c)
    isplitl [Ho]; · iexact Ho
    isplitl [HA]; · iexact HA
    isplitl [Haw]; · iexact Haw
    isplitl [Ha]; · iexact Ha
    isplitl [Hg]; · iexact Hg
    isplitl [Hstag]; · iexact Hstag
    isplitl [Hw]; · iexact Hw
    iexact Hout
  · iintro H
    iapply HQ
    iapply (body_end m c)
    iexact H

abbrev held (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ m c ∗ (dats m 0 c).owesAt () t0_0.castSucc
    ∗ (∃ d, held c cc0_stg0_0 ((dats m 0 c).before (0 : Fin 2) t0_0 d))
    ∗ (∃ d, held c cc0_stg1_0 ((dats m 0 c).before (1 : Fin 2) t0_0 d)))
def bodyPost : sProp 𝕄 :=
  iprop(Φ₁ m c ∗ (dats m 0 c).owesAt () t0_0.succ ∗ held c cc0_stg0_0 (wOf m c) ∗ held c cc0_stg1_0 (result m c))

/-- What the pipeline asks of the body. -/
theorem body_obligation : BodyObligation (dats (F := F) m 0 c) (defs₀ (F := F)) 𝒱₀ () Set.univ := fun t => by
  rcases fin_N0 t with rfl
  rw [bigSep_W0, bigSep_W0]
  simp only [whole_owns]
  show bodyPre m c ⊢ wp frame (wpE (defs₀ (F := F)) 𝒱₀ c none) Set.univ (bodyAt0 (F := F) t0_0) (fun _ => bodyPost m c)
  rw [bodyAt_ring]
  show _ ⊢ Runs c ring.body _
  unfold bodyPre Dat.owesAt Pipeline.owesWithin
  iintro ⟨HΦ, ⟨%W, %hW, HO⟩, ⟨%d0, %g0, %hg0, Hx⟩, ⟨%d1, %g1, %hg1, Hout⟩⟩
  have hx : g0 = wOf m c := hg0.trans (fetched_w m c t0_0 d0)
  subst hx
  iapply (body_in_place m c)
  isplitl [HΦ]; · iexact HΦ
  isplitl [HO]
  · unfold ow; iexists W; iexact HO
  isplitl [Hx]; · iexact Hx
  isplitl [Hout]; · (iexists g1; iexact Hout)
  unfold left ow bodyPost Dat.owesAt Pipeline.owesWithin
  iintro ⟨HΦ, ⟨%W', HO⟩, Hx, Hout⟩
  isplitl [HΦ]; · iexact HΦ
  isplitl [HO]
  · iexists W'
    isplitr; · (ipureintro; exact fun _ _ => Or.inl trivial)
    iexact HO
  isplitl [Hx]
  · iexists _; isplitr; · (ipureintro; rfl)
    iexact Hx
  iexists _; isplitr; · (ipureintro; rfl)
  iexact Hout

/-! ### The launch -/

theorem start_intro :
    iprop(Pipeline.unscopedRestP Pipeline.Prefetch.none cfg0.spec c (fun b => m ((c : Thread nD τ).loc b)) ∗ levAts L lv
        ∗ Pipeline.launchCred O₀ c ∗ prngReg c (ρ c) ∗ given m c)
      ⊢ |={Set.univ}=> iprop(start m c ∗ emp) := by
  rw [Pipeline.unscopedRestP_none]
  show iprop(Pipeline.unscopedRest spec0 c _ ∗ _) ⊢ _
  rw [unscopedRest0_eq]
  iintro ⟨⟨Ha, Hg⟩, Hlev, Hcr, -, HG⟩
  ihave Hc := (credits (F := F) c) $$ Hcr
  imodintro
  unfold start
  isplitl
  · isplitl [HG]; · iexact HG
    isplitl [Hlev]; · iexact Hlev
    isplitl [Hc]; · iexact Hc
    isplitl [Ha]; · iexact Ha
    iexists _; iexact Hg
  · iempintro

theorem enter :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem leave :
    (dats m 0 c).Φ (Fin.last cfg0.N) ⊢ iprop(taken m c ∗ Pipeline.ownSems0 osem c ∗ Pipeline.scopedRest cfg0.spec c) := by
  rw [show (dats m 0 c).Φ (Fin.last cfg0.N) = Φ₁ m c from rfl, scopedRest0_eq, own_zero]
  unfold Φ₁ loose
  iintro ⟨Ht, ⟨⟨Hx, Hs⟩, Hr⟩, Hstag⟩
  isplitl [Ht]; · iexact Ht
  isplitl [Hx Hs Hr]
  · isplitl [Hx]; · iexact Hx
    isplitl [Hs]; · iexact Hs
    iexact Hr
  iexact Hstag

theorem waits : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- What is read off the final state of device `c` besides its windows' arrays. -/
def Seen (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)

theorem seen (s' : Phys nD τ sig (Elt F)) : iprop(taken m c ∗ emp ∗ SI s') ⊢ |={Set.univ}=> iprop(⌜Seen m c s'.mem⌝ ∗ SI s') := by
  unfold taken
  iintro ⟨⟨Hu, Ha⟩, -, HSI⟩
  ihave %ha := (SI_pointsTo_agree (st := s') (ℓ := (c : Thread nD τ).loc main_arg0)) $$ [HSI Ha]
  · isplitl [HSI]; · iexact HSI
    iexact Ha
  imod (Pipeline.unscopedSems0_read (X := unscopedSems0 c) (c := c) fupd_intro s') $$ [Hu HSI] with ⟨%hs, HSI⟩
  · isplitl [Hu] <;> iassumption
  imodintro
  isplitr
  · ipureintro
    exact ⟨hs, funext fun i => ha i (Finset.mem_univ i)⟩
  iexact HSI

/-- The state at the end. -/
def Final (r : PUnit × MemSt nD τ sig (Elt F)) : Prop :=
  (∀ c : Dev nD, (∀ w : Fin cfg0.W, r.2.mem ((cfg0.win w).arr.view.loc (c : Thread nD τ)) = (dats m 0 c).arrAt w cfg0.N)
    ∧ r.2.mem ((c : Thread nD τ).loc main_arg0) = m ((c : Thread nD τ).loc main_arg0))
  ∧ r.2.sem = fun _ => 0

/-- From any memory and zero counters every fair run of the sixteen devices ends, in such a state. -/
theorem run_all : θ_run defs (onTc (τ := τ) (main (F := F))) ⟨m, fun _ => 0, ρ⟩ (Final m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt m) (G' := given m) (u₀ := u₀)
    (hu₀ := by
      iintro Hu
      ihave H := u₀_split $$ Hu
      icases H with ⟨HP, HX⟩
      imod (deal m) $$ HX with HG
      imodintro
      isplitl [HP] <;> iassumption)
    (hglob := all_given m)
    (hA := fun _ _ => rfl) (hpf := fun _ k => k.elim0)
    (X := start m) (Y := taken m) (Z := fun _ => iprop(emp))
    (hX := start_intro m ρ) (hin := enter m) (hout := leave m)
    (QY := Seen m) (hY := seen m)
    (hQ := fun _ h hs => ⟨fun c => ⟨fun w => (h c).1 w, (h c).2.2.2⟩, sem_eq_zero hs fun c => (h c).2.2.1⟩)

theorem final_w : (dats m 0 c).arrAt 0 cfg0.N = wOf m c := (dats (F := F) m 0 c).arrAt_in 0 rfl _

theorem final_out : (dats m 0 c).arrAt 1 cfg0.N = result m c :=
  (dats m 0 c).arrAt_eq_of_cover 1 (result m c) (fun t _ => (read_out t (result m c)).symm) fun i => ⟨t0_0, flush0_1 _, mem_flush _ i⟩

/-- The run: it ends with both arguments and every counter as before, and on each device `result` in the result array. -/
theorem run : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1_0) = result m c)
    ∧ r.2.sem = fun _ => 0) :=
  (θ_run defs _ _).mono (fun _ h => ⟨fun c => ⟨(h.1 c).2, ((h.1 c).1 0).trans (final_w m c), ((h.1 c).1 1).trans (final_out m c)⟩, h.2⟩) (run_all m ρ)

end Cert.KernelIdeal.Ring

end
-- ==== Proof.Reference.lean ====
/-
  The run of the reference on its one device, and what it leaves in its result.
-/
module

public import proofs.«01_k».proof.Proof.Gen.ReferenceIdeal
public import Idealize.ShloMosaic.Lib.StableHlo.Run
public import Idealize.ShloMosaic.Lib.Quiescent

@[expose] public section

noncomputable section

namespace Cert.ReferenceIdeal.Plain

open Cert.ReferenceIdeal Cert.ReferenceIdeal.Gen
open Idealize.ShloMosaic Idealize.ShloMosaic.TcCoe Idealize.ShloMosaic.StableHlo Idealize.SL.Sem

variable {F : FTy → Type} [FloatOps F]

/-- The product of the two arguments. -/
def product (x : FVec F S8192x8192 .f32) (w : FVec F S8192x4096 .f32) : FVec F S8192x4096 .f32 :=
  Host.dotGeneral dot_S8192x8192_S8192x4096_S8192x4096_1_0_0_1_n_n none x w

/-- Each entry `y` of the product divided by `1 + exp (-y)`. -/
def silu (y : FVec F S8192x4096 .f32) : FVec F S8192x4096 .f32 :=
  Host.divf y (addf (broadcastInDim S8192x4096 ![] bcast_S_S8192x4096 (constant S_ .f32 0x3F800000#32)) (Host.exp (Host.negf y)))

/-- The reference's seven operations. -/
abbrev body : List (HloOp τ sig (Elt F)) :=
  [ binary main_arg0 main_arg1 main_v0 (product (F := F)),
    unary main_v0 main_v1 (Host.negf (F := F) (s := S8192x4096) (φ := .f32)),
    unary main_v1 main_v2 (Host.exp (F := F) (s := S8192x4096) (φ := .f32)),
    nullary main_cst (constant (F := F) S_ .f32 0x3F800000#32),
    unary main_cst main_v3 (broadcastInDim S8192x4096 ![] bcast_S_S8192x4096 : FVec F S_ .f32 → FVec F S8192x4096 .f32),
    binary main_v3 main_v2 main_v4 (addf (F := F) (s := S8192x4096) (φ := .f32)),
    binary main_v0 main_v4 main_v5 (Host.divf (F := F) (s := S8192x4096) (φ := .f32)) ]

theorem main_body (c : Dev nD) : main (F := F) c = seq body := rfl

theorem after_result (V : Valuation τ sig (Elt F)) :
    after body V (main_v5 : DevRef τ sig) = silu (product (V (main_arg0 : DevRef τ sig)) (V (main_arg1 : DevRef τ sig))) := by
  after_results
  rfl
theorem after_x (V : Valuation τ sig (Elt F)) : after body V (main_arg0 : DevRef τ sig) = V (main_arg0 : DevRef τ sig) := by
  after_results
theorem after_w (V : Valuation τ sig (Elt F)) : after body V (main_arg1 : DevRef τ sig) = V (main_arg1 : DevRef τ sig) := by
  after_results

theorem no_scoped_ref : (Finset.univ.filter fun b : Ref sig .tc => b.isScoped) = ∅ := by decide
theorem no_scoped_sem : (Finset.univ.filter fun sm : SemLoc sig => sm.isScoped .tc) = ∅ := by decide

theorem body_on_tc : (body : List (HloOp τ sig (Elt F))).Forall fun op => op.bufs ⊆ tcRefs τ sig :=
  ⟨binary_bufs_sub .., unary_bufs_sub .., unary_bufs_sub .., nullary_bufs_sub .., unary_bufs_sub .., binary_bufs_sub .., binary_bufs_sub ..⟩

/-- The reference ends with its arguments as they were, its result at `silu` of their product and every
    counter at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v5)
          = silu (product (m ((c.tc : Thread nD τ).loc main_arg0)) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c main_v5).trans (after_result _), (h c main_arg0).trans (after_x _), (h c main_arg1).trans (after_w _)⟩,
      sem_eq_zero_of_no_sems (by decide) r.2⟩)
    (run_seq no_scoped_ref no_scoped_sem defs main (fun _ => body) main_body (fun _ => body_on_tc) m ρ)

end Cert.ReferenceIdeal.Plain

end
-- ==== Proof.Clipped.lean ====
/-
  The run of the clipped reference on its one device, and where its result is the plain reference's.
-/
module

public import proofs.«01_k».proof.Proof.Gen.ClippedIdeal
public import proofs.«01_k».proof.Proof.Gen.On_within_clip
public import proofs.«01_k».proof.Proof.Reference
public import Idealize.ShloMosaic.Lib.IdealHost

@[expose] public section

set_option maxRecDepth 40000

noncomputable section

namespace Cert.ClippedIdeal.Plain

open Cert.ClippedIdeal Cert.ClippedIdeal.Gen
open Idealize.ShloMosaic Idealize.ShloMosaic.TcCoe Idealize.ShloMosaic.StableHlo Idealize.SL.Sem
open Cert.ReferenceIdeal.Plain (product silu)

variable {F : FTy → Type} [FloatOps F]

/-- The constant of bit pattern `b` at every entry. -/
def all (b : BitVec 32) : FVec F S8192x4096 .f32 := broadcastInDim S8192x4096 ![] bcast_S_S8192x4096 (constant S_ .f32 b)

/-- Every entry brought into [-60, 60]. -/
def clip (y : FVec F S8192x4096 .f32) : FVec F S8192x4096 .f32 := minimumf (all 0x42700000#32) (maximumf (all 0xC2700000#32) y)

/-- Each entry `y` divided by `1 + exp (-z)` with `z` the clipped `y`. -/
def clippedSilu (y : FVec F S8192x4096 .f32) : FVec F S8192x4096 .f32 :=
  Host.divf y (addf (all 0x3F800000#32) (Host.exp (Host.negf (clip y))))

/-- The clipped reference's operations, those of its clip included. -/
abbrev body : List (HloOp τ sig (Elt F)) :=
  [ binary main_arg0 main_arg1 main_v0 (product (F := F)),
    nullary main_cst (constant (F := F) S_ .f32 0xC2700000#32),
    nullary main_cst_0 (constant (F := F) S_ .f32 0x42700000#32),
    unary main_cst main_call0_v0 (id : FVec F S_ .f32 → FVec F S_ .f32),
    unary main_call0_v0 main_call0_v1 (broadcastInDim S8192x4096 ![] bcast_S_S8192x4096 : FVec F S_ .f32 → FVec F S8192x4096 .f32),
    binary main_call0_v1 main_v0 main_call0_v2 (maximumf (F := F) (s := S8192x4096) (φ := .f32)),
    unary main_cst_0 main_call0_v3 (id : FVec F S_ .f32 → FVec F S_ .f32),
    unary main_call0_v3 main_call0_v4 (broadcastInDim S8192x4096 ![] bcast_S_S8192x4096 : FVec F S_ .f32 → FVec F S8192x4096 .f32),
    binary main_call0_v4 main_call0_v2 main_v1 (minimumf (F := F) (s := S8192x4096) (φ := .f32)),
    unary main_v1 main_v2 (Host.negf (F := F) (s := S8192x4096) (φ := .f32)),
    unary main_v2 main_v3 (Host.exp (F := F) (s := S8192x4096) (φ := .f32)),
    nullary main_cst_1 (constant (F := F) S_ .f32 0x3F800000#32),
    unary main_cst_1 main_v4 (broadcastInDim S8192x4096 ![] bcast_S_S8192x4096 : FVec F S_ .f32 → FVec F S8192x4096 .f32),
    binary main_v4 main_v3 main_v5 (addf (F := F) (s := S8192x4096) (φ := .f32)),
    binary main_v0 main_v5 main_v6 (Host.divf (F := F) (s := S8192x4096) (φ := .f32)) ]

theorem main_body (c : Dev nD) : main (F := F) c = seq body := rfl

theorem after_result (V : Valuation τ sig (Elt F)) :
    after body V (main_v6 : DevRef τ sig) = clippedSilu (product (V (main_arg0 : DevRef τ sig)) (V (main_arg1 : DevRef τ sig))) := by
  after_results
  rfl
theorem after_x (V : Valuation τ sig (Elt F)) : after body V (main_arg0 : DevRef τ sig) = V (main_arg0 : DevRef τ sig) := by
  after_results
theorem after_w (V : Valuation τ sig (Elt F)) : after body V (main_arg1 : DevRef τ sig) = V (main_arg1 : DevRef τ sig) := by
  after_results

theorem no_scoped_ref : (Finset.univ.filter fun b : Ref sig .tc => b.isScoped) = ∅ := by decide
theorem no_scoped_sem : (Finset.univ.filter fun sm : SemLoc sig => sm.isScoped .tc) = ∅ := by decide

theorem body_on_tc : (body : List (HloOp τ sig (Elt F))).Forall fun op => op.bufs ⊆ tcRefs τ sig :=
  ⟨binary_bufs_sub .., nullary_bufs_sub .., nullary_bufs_sub .., unary_bufs_sub .., unary_bufs_sub .., binary_bufs_sub .., unary_bufs_sub ..,
    unary_bufs_sub .., binary_bufs_sub .., unary_bufs_sub .., unary_bufs_sub .., nullary_bufs_sub .., unary_bufs_sub .., binary_bufs_sub ..,
    binary_bufs_sub ..⟩

/-- The clipped reference ends with its arguments as they were, its result at `clippedSilu` of their product and every
    counter at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v6)
          = clippedSilu (product (m ((c.tc : Thread nD τ).loc main_arg0)) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c main_v6).trans (after_result _), (h c main_arg0).trans (after_x _), (h c main_arg1).trans (after_w _)⟩,
      sem_eq_zero_of_no_sems (by decide) r.2⟩)
    (run_seq no_scoped_ref no_scoped_sem defs main (fun _ => body) main_body (fun _ => body_on_tc) m ρ)

/-! ### Where the clip does nothing -/

theorem sixty : Ideal.ofBits .f32 0x42700000#32 = ((60 : ℝ) : EReal) := by
  simp [Ideal.ofBits, Ideal.ieee, -EReal.coe_mul]; norm_num
theorem minus_sixty : Ideal.ofBits .f32 0xC2700000#32 = -((60 : ℝ) : EReal) := by
  rw [← EReal.coe_neg]
  simp [Ideal.ofBits, Ideal.ieee, -EReal.coe_mul, -EReal.coe_neg]; norm_num

/-- The clip keeps an entry that the mask selects. -/
theorem clip_apply (x : FVec Ideal S8192x8192 .f32) (w : FVec Ideal S8192x4096 .f32) (i : S8192x4096.Idx)
    (h : Cert.On_within_clip.fn x w i = 1#1) : clip (product x w) i = product x w i := by
  have hle : max (product x w i) (-(product x w i)) ≤ Ideal.ofBits .f32 0x42700000#32 := by
    by_contra hn
    have hz : Cert.On_within_clip.fn x w i = Ideal.cmp .ole (max (product x w i) (-(product x w i))) (Ideal.ofBits .f32 0x42700000#32) := rfl
    rw [hz] at h
    simp [Ideal.cmp, hn] at h
  rw [sixty, max_le_iff] at hle
  show min (Ideal.ofBits .f32 0x42700000#32) (max (Ideal.ofBits .f32 0xC2700000#32) (product x w i)) = product x w i
  rw [sixty, minus_sixty, max_eq_right (EReal.neg_le.1 hle.2), min_eq_right hle.1]

/-- At the entries that the mask selects the clipped reference's result is the plain reference's. -/
theorem clippedSilu_apply (x : FVec Ideal S8192x8192 .f32) (w : FVec Ideal S8192x4096 .f32) (i : S8192x4096.Idx)
    (h : Cert.On_within_clip.fn x w i = 1#1) : clippedSilu (product x w) i = silu (product x w) i := by
  show Ideal.div (product x w i) (Ideal.ofBits .f32 0x3F800000#32 + Ideal.exp (-(clip (product x w) i))) = _
  rw [clip_apply x w i h]
  rfl

end Cert.ClippedIdeal.Plain

end
-- ==== Proof.Value.lean ====
/-
  In exact arithmetic the block of columns a device computes is its block of the reference's result.
-/
module

public import proofs.«01_k».proof.Proof.Ring.Contents
public import proofs.«01_k».proof.Proof.Reference
public import Idealize.ShloMosaic.Lib.Layout
public import Idealize.ShloMosaic.Lib.MatmulPlain
public import Idealize.ShloMosaic.Lib.StackMember
public import Idealize.ShloMosaic.Lib.IdealHost

@[expose] public section

set_option maxRecDepth 40000

noncomputable section

namespace Cert.Silu

open Idealize.ShloMosaic Idealize.ShloMosaic.TcCoe Idealize.ShloMosaic.ValueIdx Idealize.SL.Sem
open Cert.KernelIdeal.Ring (act halfMat halfMat_apply xOf wOf result)
open Cert.ReferenceIdeal.Plain (product silu)

/-- `y * logistic y` is `y / (1 + exp (-y))` for every extended real `y`. -/
theorem mul_logistic (y : EReal) : y * Ideal.logistic y = Ideal.div y (1 + Ideal.exp (-y)) := by
  have h : (1 + Ideal.exp (-y) : EReal) ≠ 0 := by
    have h0 : (0 : EReal) ≤ Ideal.exp (-y) := by
      induction y using EReal.rec with
      | bot => simp
      | top => simp
      | coe r => rw [← EReal.coe_neg, Ideal.exp_coe]; exact_mod_cast (Real.exp_pos _).le
    have h1 : (0 : EReal) < 1 + Ideal.exp (-y) := lt_of_lt_of_le zero_lt_one (le_add_of_nonneg_right h0)
    exact h1.ne'
  rw [Ideal.logistic, Ideal.div, Ideal.div, if_neg h, if_neg h, one_mul]

/-- An entry of what the kernel computes of 256 rows and a device's columns: `y * logistic y` of the inner product `y`. -/
theorem act_apply (a : Vec Ideal Cert.KernelIdeal.S256x8192 .f32) (w : Vec Ideal Cert.KernelIdeal.S8192x256 .f32) (r q : Fin 256) :
    act a w (ix2 r q) = (∑ k : Fin 8192, a (ix2 r k) * w (ix2 k q)) * Ideal.logistic (∑ k : Fin 8192, a (ix2 r k) * w (ix2 k q)) := by
  have e : FloatOps.matmul (F := Ideal) (φ₁ := .f32) (φ₂ := .f32) (DotDims.plain 256 8192 256) none a w (constant ⟨2, ![256, 256]⟩ .f32 0x00000000#32) (ix2 r q)
      = ∑ k : Fin 8192, a (ix2 r k) * w (ix2 k q) := by
    rw [Ideal.matmul_plain_apply]
    show Ideal.ofBits .f32 0x00000000#32 + _ = _
    rw [Ideal.ofBits_zero_f32, zero_add]
  rw [← e]
  rfl

/-- An entry of the reference's result: `y / (1 + exp (-y))` of the inner product `y`. -/
theorem silu_apply (x : FVec Ideal Cert.ReferenceIdeal.S8192x8192 .f32) (w : FVec Ideal Cert.ReferenceIdeal.S8192x4096 .f32) (r : Fin 8192) (q : Fin 4096) :
    silu (product x w) (ix2 r q)
      = Ideal.div (∑ k : Fin 8192, x (ix2 r k) * w (ix2 k q)) (1 + Ideal.exp (-(∑ k : Fin 8192, x (ix2 r k) * w (ix2 k q)))) := by
  have e : product x w (ix2 r q) = ∑ k : Fin 8192, x (ix2 r k) * w (ix2 k q) := Idealize.ShloMosaic.StackMember.dotGeneral_plain_apply none x w r q
  rw [← e, ← Ideal.ofBits_one_f32]
  rfl

/-- The result on device `c` is block `c` of the reference's result of the whole arrays. -/
theorem result_block (m : (ℓ : Loc Cert.KernelIdeal.nD Cert.KernelIdeal.τ Cert.KernelIdeal.sig) → Buf (Elt Ideal) ℓ)
    (x : FVec Ideal Cert.ReferenceIdeal.S8192x8192 .f32) (w : FVec Ideal Cert.ReferenceIdeal.S8192x4096 .f32)
    (hx : ∀ o : Dev Cert.KernelIdeal.nD, xOf m o = Layout.block ⟨2, ![512, 8192]⟩ ⟨2, ![8192, 8192]⟩ 0 16 o x)
    (c : Dev Cert.KernelIdeal.nD) (hw : wOf m c = Layout.block ⟨2, ![8192, 256]⟩ ⟨2, ![8192, 4096]⟩ 1 16 c w) :
    result m c = Layout.block ⟨2, ![8192, 256]⟩ ⟨2, ![8192, 4096]⟩ 1 16 c (silu (product x w)) := by
  have hxe : ∀ (o : Dev Cert.KernelIdeal.nD) (b : Fin 2) (r : Fin 256) (k : Fin 8192) (y : Fin 8192), y.val = 512 * o.val + (256 * b.val + r.val) →
      halfMat m o b (ix2 r k) = x (ix2 y k) := fun o b r k y hy => by
    rw [halfMat_apply, hx]
    refine congrArg x (funext fun a => Fin.ext ?_)
    match a with
    | ⟨0, _⟩ => show o.val * 512 + (256 * b.val + r.val) = y.val; omega
    | ⟨1, _⟩ => rfl
  have hwe : ∀ (k : Fin 8192) (q : Fin 256), wOf m c (ix2 k q) = w (ix2 k ⟨c.val * 256 + q.val, by have := c.isLt; show _ < 4096; have h : c.val < 16 := this; omega⟩) := fun k q => by
    rw [hw]
    refine congrArg w (funext fun a => Fin.ext ?_)
    match a with
    | ⟨0, _⟩ => rfl
    | ⟨1, _⟩ => rfl
  funext i
  obtain ⟨y, q, rfl⟩ : ∃ (y : Fin 8192) (q : Fin 256), i = ix2 y q := ⟨i 0, i 1, by funext a; fin_cases a <;> rfl⟩
  have hi : (Layout.block ⟨2, ![8192, 256]⟩ ⟨2, ![8192, 4096]⟩ 1 16 c (silu (product x w)) : Vec Ideal ⟨2, ![8192, 256]⟩ .f32) (ix2 y q)
      = silu (product x w) (ix2 y ⟨c.val * 256 + q.val, by have := c.isLt; show _ < 4096; have h : c.val < 16 := this; omega⟩) := by
    refine congrArg (silu (product x w)) (funext fun a => Fin.ext ?_)
    match a with
    | ⟨0, _⟩ => rfl
    | ⟨1, _⟩ => rfl
  refine Eq.trans ?_ hi.symm
  rw [silu_apply, ← mul_logistic]
  have hr : result m c (ix2 y q) = act (halfMat m ⟨y.val / 512, by show _ < 16; omega⟩ ⟨y.val / 256 % 2, Nat.mod_lt _ (by decide)⟩) (wOf m c)
      (ix2 ⟨y.val % 256, Nat.mod_lt _ (by decide)⟩ q) := rfl
  refine hr.trans ?_
  rw [act_apply]
  have hs : (∑ k : Fin 8192, halfMat m ⟨y.val / 512, by show _ < 16; omega⟩ ⟨y.val / 256 % 2, Nat.mod_lt _ (by decide)⟩ (ix2 ⟨y.val % 256, Nat.mod_lt _ (by decide)⟩ k) * wOf m c (ix2 k q))
      = ∑ k : Fin 8192, x (ix2 y k) * w (ix2 k ⟨c.val * 256 + q.val, by have := c.isLt; show _ < 4096; have h : c.val < 16 := this; omega⟩) :=
    Finset.sum_congr rfl fun k _ => by
      rw [hwe, hxe _ _ _ k y (by simp only; omega)]
  rw [hs]

end Cert.Silu

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ClippedIdeal
public import proofs.«01_k».proof.Proof.Gen.On_within_clip
public import proofs.«01_k».proof.Proof.Ring.Run
public import proofs.«01_k».proof.Proof.Reference
public import proofs.«01_k».proof.Proof.Clipped
public import proofs.«01_k».proof.Proof.Value
public import Idealize.ShloMosaic.Adequacy
public import Idealize.ShloMosaic.Init

@[expose] public section

set_option maxRecDepth 40000

noncomputable section

namespace Cert.Proof

open Idealize.ShloMosaic Idealize.SL.Sem Cert.Kernel

/-- Over any values the kernel runs, keeps its arguments and leaves every counter at zero. -/
theorem frame {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ fun r =>
      (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1))
      ∧ r.2.sem = fun _ => 0 :=
  (θ_run (Cert.KernelIdeal.defs (F := F)) _ _).mono (fun _ h => ⟨fun c => ⟨(h.1 c).1, (h.1 c).2.1⟩, h.2⟩)
    (Cert.KernelIdeal.Ring.run (F := F) m g)

/-- The kernel and its idealization have the same body, -/
theorem bodies_eq {F : FTy → Type} [FloatOps F] : Cert.Kernel.defs₀ (F := F) = Cert.KernelIdeal.defs₀ (F := F) := by
  refine congrArg (Defs.onTc (nD := Cert.KernelIdeal.nD) (τ := Cert.KernelIdeal.τ) (sig := Cert.KernelIdeal.sig) (Val := Elt F) (Λ := Cert.KernelIdeal.Λ₀))
    (funext fun l => funext fun a => ?_)
  match l, a with
  | ⟨0, _⟩, (t, s) => rfl

/-- and so the same functions. -/
theorem defs_eq {F : FTy → Type} [FloatOps F] : Cert.Kernel.defs (F := F) = Cert.KernelIdeal.defs (F := F) :=
  congrArg (Pipeline.defs (Cert.KernelIdeal.pcfgs (F := F))) bodies_eq

/-- The frame of the kernel: its text is the text of its idealization, read at bit patterns. -/
theorem frame_kernel : Cert.quiescent_Kernel := fun m g _ => by
  have h := frame (F := Bits) m g
  rw [← defs_eq] at h
  exact h

/-- The frame of the kernel in exact arithmetic. -/
theorem frame_kernelIdeal : Cert.quiescent_KernelIdeal := fun m g _ => frame (F := Ideal) m g

/-- The reference runs, keeps its arguments and leaves every counter at zero. -/
theorem frame_reference : Cert.quiescent_ReferenceIdeal := fun m g _ =>
  (θ_run (Cert.ReferenceIdeal.defs (F := Ideal)) _ _).mono (fun _ h => ⟨fun c => (h.1 c).2, h.2⟩)
    (Cert.ReferenceIdeal.Plain.run (F := Ideal) m g)

/-- From blocks of the reference's arguments every device of the kernel computes its block of the reference's result. -/
theorem algebraic : Cert.algebraic_KernelIdeal_ReferenceIdeal := fun m g m' g' _ hargs =>
  ⟨_, (θ_run (Cert.KernelIdeal.defs (F := Ideal)) _ _).mono
      (fun _ h c => ⟨((h.1 c).2.2).trans (Cert.Silu.result_block m _ _ (fun o => (hargs o).1) c (hargs c).2), (h.1 c).1, (h.1 c).2.1⟩)
      (Cert.KernelIdeal.Ring.run (F := Ideal) m g),
    (θ_run (Cert.ReferenceIdeal.defs (F := Ideal)) _ _).mono (fun _ h => h.1 0) (Cert.ReferenceIdeal.Plain.run (F := Ideal) m' g')⟩

/-- The clipped reference runs, keeps its arguments and leaves every counter at zero. -/
theorem frame_clipped : Cert.quiescent_ClippedIdeal := fun m g _ =>
  (θ_run (Cert.ClippedIdeal.defs (F := Ideal)) _ _).mono (fun _ h => ⟨fun c => (h.1 c).2, h.2⟩)
    (Cert.ClippedIdeal.Plain.run (F := Ideal) m g)

/-- Where the product lies in [-60, 60] every device of the kernel computes its block of the clipped reference's result. -/
theorem algebraic_clipped : Cert.algebraic_KernelIdeal_ClippedIdeal_on_within_clip := fun m g m' g' _ hargs => by
  refine ⟨Cert.ReferenceIdeal.Plain.silu (F := Ideal) (Cert.ReferenceIdeal.Plain.product (F := Ideal)
      (m' (((0 : Dev Cert.ClippedIdeal.nD).tc : Thread Cert.ClippedIdeal.nD Cert.ClippedIdeal.τ).loc Cert.ClippedIdeal.main_arg0))
      (m' (((0 : Dev Cert.ClippedIdeal.nD).tc : Thread Cert.ClippedIdeal.nD Cert.ClippedIdeal.τ).loc Cert.ClippedIdeal.main_arg1))), ?_, ?_⟩
  · exact (θ_run (Cert.KernelIdeal.defs (F := Ideal)) _ _).mono
      (fun _ h c => ⟨fun i _ => (congrFun (h.1 c).2.2 i).trans (congrFun (Cert.Silu.result_block m _ _ (fun o => (hargs o).1) c (hargs c).2) i),
        (h.1 c).1, (h.1 c).2.1⟩)
      (Cert.KernelIdeal.Ring.run (F := Ideal) m g)
  · exact (θ_run (Cert.ClippedIdeal.defs (F := Ideal)) _ _).mono
      (fun _ h => ⟨fun i hi => (congrFun (h.1 0).1 i).trans (Cert.ClippedIdeal.Plain.clippedSilu_apply _ _ i hi), (h.1 0).2⟩)
      (Cert.ClippedIdeal.Plain.run (F := Ideal) m' g')

theorem claim : Cert.Claim :=
  ⟨Cert.Kernel.Gen.facts, Cert.KernelIdeal.Gen.facts, Cert.ReferenceIdeal.Gen.facts, Cert.ClippedIdeal.Gen.facts, Cert.On_within_clip.Gen.facts,
    frame_kernel, frame_kernelIdeal, frame_reference, frame_clipped, trivial, algebraic, algebraic_clipped⟩

end Cert.Proof

end
